-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_confused [hPre_confused : Cert.Pre_confused.Facts] (m : (ℓ : Loc Cert.KernelIdeal.nD Cert.KernelIdeal.τ Cert.KernelIdeal.sig) → Buf (Elt Ideal) ℓ) : Prop :=
  ∀ c : Dev Cert.KernelIdeal.nD,
    (Cert.Pre_confused.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_confused [hPre_confused : Cert.Pre_confused.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_confused.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_confused [hKernelIdeal : Cert.KernelIdeal.Facts] [hPre_confused : Cert.Pre_confused.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_confused m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_confused [hReferenceIdeal : Cert.ReferenceIdeal.Facts] [hPre_confused : Cert.Pre_confused.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_confused m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_confused [hKernelIdeal : Cert.KernelIdeal.Facts] [hReferenceIdeal : Cert.ReferenceIdeal.Facts] [hPre_confused : Cert.Pre_confused.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_confused m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_confused : Cert.Pre_confused.Facts),
    quiescent_Kernel (hKernel := hKernel)
    ∧ quiescent_KernelIdeal (hKernelIdeal := hKernelIdeal)
    ∧ quiescent_KernelIdeal_pre_confused (hKernelIdeal := hKernelIdeal) (hPre_confused := hPre_confused)
    ∧ quiescent_ReferenceIdeal (hReferenceIdeal := hReferenceIdeal)
    ∧ quiescent_ReferenceIdeal_pre_confused (hReferenceIdeal := hReferenceIdeal) (hPre_confused := hPre_confused)
    ∧ preserves_Kernel_KernelIdeal
    ∧ algebraic_KernelIdeal_ReferenceIdeal_pre_confused (hKernelIdeal := hKernelIdeal) (hReferenceIdeal := hReferenceIdeal) (hPre_confused := hPre_confused)
-- ==== Pre_confused.lean ====
abbrev S16384x32 : Shape := ⟨2, ![16384, 32]⟩
abbrev S32 : Shape := ⟨1, ![32]⟩
abbrev S_ : Shape := ⟨0, ![]⟩
abbrev S1x32 : Shape := ⟨2, ![1, 32]⟩
abbrev S16384 : Shape := ⟨1, ![16384]⟩
abbrev S16384x1 : Shape := ⟨2, ![16384, 1]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S32_S1x32_1 : S32.BroadcastsInDim S1x32 (![1] : Fin 1 → Fin S1x32.rank)
  reducesTo_S16384x32_S16384_d1 : S16384x32.ReducesTo [1] S16384
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S1x32_S16384x32_0_1 : S1x32.BroadcastsInDim S16384x32 (![0, 1] : Fin 2 → Fin S16384x32.rank)
  reducesTo_S16384x32_S32_d0 : S16384x32.ReducesTo [0] S32
  reducesTo_S32_S_d0 : S32.ReducesTo [0] S_

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S16384x32 .f32) : IVec S16384 32 :=
  let v0 : IVec S16384x32 32 := iotaInDim S16384x32 32 1
  let cst : FVec F S_ .f32 := constant S_ .f32 0xFF800000#32
  let c : IVec S_ 32 := constantI S_ 32 0#32
  let v1_0 : FVec F S16384 .f32 := (fun x y u v j => (Host.argReduce reducer_argmax_f32_i32 x y u v reducesTo_S16384x32_S16384_d1 h_S_ j).1) arg0 v0 cst c
  let v1_1 : IVec S16384 32 := (fun x y u v j => (Host.argReduce reducer_argmax_f32_i32 x y u v reducesTo_S16384x32_S16384_d1 h_S_ j).2) arg0 v0 cst c
  v1_1

def fn {F : FTy → Type} [FloatOps F] (main_arg0 : FVec F S16384x32 .f32) (main_arg1 : FVec F S16384x32 .f32) (main_arg2 : FVec F S32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : IVec S32 32 := iotaInDim S32 32 0
  let main_v5 : IVec S1x32 32 := broadcastInDim S1x32 ![1] bcast_S32_S1x32_1 main_v4
  let main_v6 : IVec S16384 32 := fn_argmax (F := F) main_arg0
  let main_v7 : IVec S16384x1 32 := broadcastInDim S16384x1 ![0] bcast_S16384_S16384x1_0 main_v6
  let main_v8 : IVec S16384x32 32 := broadcastInDim S16384x32 ![0, 1] bcast_S16384x1_S16384x32_0_1 main_v7
  let main_v9 : IVec S16384x32 32 := broadcastInDim S16384x32 ![0, 1] bcast_S1x32_S16384x32_0_1 main_v5
  let main_v10 : IVec S16384x32 1 := cmpi .eq main_v8 main_v9
  let main_v11 : IVec S16384 32 := fn_argmax (F := F) main_arg1
  let main_v12 : IVec S16384x1 32 := broadcastInDim S16384x1 ![0] bcast_S16384_S16384x1_0 main_v11
  let main_v13 : IVec S16384x32 32 := broadcastInDim S16384x32 ![0, 1] bcast_S16384x1_S16384x32_0_1 main_v12
  let main_v14 : IVec S16384x32 32 := broadcastInDim S16384x32 ![0, 1] bcast_S1x32_S16384x32_0_1 main_v5
  let main_v15 : IVec S16384x32 1 := cmpi .eq main_v13 main_v14
  let main_v16 : IVec S16384x32 1 := cmpi .ne main_v10 main_v15
  let main_c_0 : IVec S_ 1 := constantI S_ 1 0#1
  let main_v17 : IVec S32 1 := (fun x v => Host.reduce IntOp.ori x v reducesTo_S16384x32_S32_d0 h_S_) main_v16 main_c_0
  let main_c_1 : IVec S_ 1 := constantI S_ 1 1#1
  let main_v18 : IVec S_ 1 := (fun x v => Host.reduce IntOp.andi x v reducesTo_S32_S_d0 h_S_) main_v17 main_c_1
  let main_v19 : IVec S_ 1 := andi main_v3 main_v18
  main_v19
-- ==== Kernel.lean ====
abbrev S16384x32 : Shape := ⟨2, ![16384, 32]⟩
abbrev S32 : Shape := ⟨1, ![32]⟩
abbrev S1x32 : Shape := ⟨2, ![1, 32]⟩
abbrev S1x1 : Shape := ⟨2, ![1, 1]⟩
abbrev S16384 : Shape := ⟨1, ![16384]⟩
abbrev S16384x1 : Shape := ⟨2, ![16384, 1]⟩
abbrev S1x16384x1 : Shape := ⟨3, ![1, 16384, 1]⟩
abbrev S1 : Shape := ⟨1, ![1]⟩
abbrev S1x1x1 : Shape := ⟨3, ![1, 1, 1]⟩
abbrev S32x16384 : Shape := ⟨2, ![32, 16384]⟩
abbrev S524288 : Shape := ⟨1, ![524288]⟩
abbrev S32x96 : Shape := ⟨2, ![32, 96]⟩
abbrev S1536 : Shape := ⟨1, ![1536]⟩
abbrev S96 : Shape := ⟨1, ![96]⟩
abbrev S_ : Shape := ⟨0, ![]⟩
abbrev S512 : Shape := ⟨1, ![512]⟩
abbrev S16 : Shape := ⟨1, ![16]⟩
abbrev S1x96 : Shape := ⟨2, ![1, 96]⟩
abbrev S1x1x32 : Shape := ⟨3, ![1, 1, 32]⟩

abbrev nBuf : Table → Nat
  | .hbm => 12
  | .local .tc .vmem => 8
  | .local .scVector .vmem => 4
  | _ => 0

abbrev bufTy : (tb : Table) → Fin (nBuf tb) → BufTy
  | .hbm, ⟨0, _⟩ => ⟨S16384x32, .f32⟩
  | .hbm, ⟨1, _⟩ => ⟨S16384x32, .f32⟩
  | .hbm, ⟨2, _⟩ => ⟨S32, .f32⟩
  | .hbm, ⟨3, _⟩ => ⟨S1x32, .f32⟩
  | .hbm, ⟨4, _⟩ => ⟨S1x1, .f32⟩
  | .hbm, ⟨5, _⟩ => ⟨S32x16384, .f32⟩
  | .hbm, ⟨6, _⟩ => ⟨S524288, .f32⟩
  | .hbm, ⟨7, _⟩ => ⟨S32x16384, .f32⟩
  | .hbm, ⟨8, _⟩ => ⟨S524288, .f32⟩
  | .hbm, ⟨9, _⟩ => ⟨S32x96, .f32⟩
  | .hbm, ⟨10, _⟩ => ⟨S1x1, .f32⟩
  | .hbm, ⟨11, _⟩ => ⟨S_, .f32⟩
  | .local .tc .vmem, ⟨0, _⟩ => ⟨S16384x32, .f32⟩
  | .local .tc .vmem, ⟨1, _⟩ => ⟨S16384x32, .f32⟩
  | .local .tc .vmem, ⟨2, _⟩ => ⟨S1x32, .f32⟩
  | .local .tc .vmem, ⟨3, _⟩ => ⟨S1x1, .f32⟩
  | .local .tc .vmem, ⟨4, _⟩ => ⟨S1x1, .f32⟩
  | .local .tc .vmem, ⟨5, _⟩ => ⟨S32x96, .f32⟩
  | .local .tc .vmem, ⟨6, _⟩ => ⟨S1x32, .f32⟩
  | .local .tc .vmem, ⟨7, _⟩ => ⟨S1x1, .f32⟩
  | .local .scVector .vmem, ⟨0, _⟩ => ⟨S16384, .f32⟩
  | .local .scVector .vmem, ⟨1, _⟩ => ⟨S16384, .f32⟩
  | .local .scVector .vmem, ⟨2, _⟩ => ⟨S1536, .f32⟩
  | .local .scVector .vmem, ⟨3, _⟩ => ⟨S96, .f32⟩
  | _, _ => ⟨S16384x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v3_scv : Ref sig .scVector := ⟨.hbm, 6, rfl⟩
abbrev main_v5_scv : Ref sig .scVector := ⟨.hbm, 8, rfl⟩
abbrev main_v6_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 7
abbrev cc2_sem1_0 : DmaSem sig := 8
abbrev cc2_sem2_0 : DmaSem sig := 9
abbrev cc2_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S16384x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi c0_i32 v2
  ![v3.toNat]
@[reducible] def k1_t1_loop : Scf.Loop 32 :=
  let c0_i32_260 : BitVec 32 := 0#32
  let c32_i32_261 : BitVec 32 := 32#32
  let v680 : BitVec 32 := Scalar.addi c0_i32_260 c32_i32_261
  let c1_i32 : BitVec 32 := 1#32
  ⟨c0_i32_260, v680, c1_i32⟩
def k1_off2 (k1_t1 : Fin k1_t1_loop.trips) (c0_i32_371 : BitVec 32) : Fin 1 → Nat :=
  let c0_i32_260 : BitVec 32 := 0#32
  let c1_i32 : BitVec 32 := 1#32
  let arg11 : BitVec 32 := Scf.iv c0_i32_260 c1_i32 k1_t1
  let c16_i32 : BitVec 32 := 16#32
  let v885 : BitVec 32 := Scalar.muli arg11 c16_i32
  let v886 : BitVec 32 := Scalar.addi c0_i32_371 v885
  let v887 : Index := Scalar.indexCast v886
  ![v887.toNat]

def k1_chk1 (v1328 : IVec S16 32) : Prop :=
  (∀ a x, ((![v1328] : Fin 1 → IVec S16 32) a x).toNat < S1536.size a)
theorem k1_idx1_inb : ∀ (v1328 : IVec S16 32) (k1_hw1 : k1_chk1 v1328), ∀ a x, ((![v1328] : Fin 1 → IVec S16 32) a x).toNat < S1536.size a := fun v1328 k1_hw1 => k1_hw1

def k1_chk2 (v1331 : IVec S16 32) : Prop :=
  (∀ a x, ((![v1331] : Fin 1 → IVec S16 32) a x).toNat < S1536.size a)
theorem k1_idx2_inb : ∀ (v1331 : IVec S16 32) (k1_hw2 : k1_chk2 v1331), ∀ a x, ((![v1331] : Fin 1 → IVec S16 32) a x).toNat < S1536.size a := fun v1331 k1_hw2 => k1_hw2

def k1_chk3 (v1334 : IVec S16 32) : Prop :=
  (∀ a x, ((![v1334] : Fin 1 → IVec S16 32) a x).toNat < S1536.size a)
theorem k1_idx3_inb : ∀ (v1334 : IVec S16 32) (k1_hw3 : k1_chk3 v1334), ∀ a x, ((![v1334] : Fin 1 → IVec S16 32) a x).toNat < S1536.size a := fun v1334 k1_hw3 => k1_hw3
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_371_r0 : BitVec 32 := 0#32
  ![v1.toNat, 0]
abbrev grid2 : Pipeline.Grid := .none

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x32 : Shape := ⟨2, ![16384, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S32x32 : Shape := ⟨2, ![32, 32]⟩
abbrev S16384x2 : Shape := ⟨2, ![16384, 2]⟩
abbrev S32x1 : Shape := ⟨2, ![32, 1]⟩
abbrev S1x32 : Shape := ⟨2, ![1, 32]⟩

abbrev nBuf : Space → Nat
  | .hbm => 134
  | .vmem => 0
  | .smem => 0
  | _ => 0

abbrev hbmTy0_0 (i : Nat) : BufTy := match i % 128 with
  | 0 => ⟨S16384x32, .f32⟩
  | 1 => ⟨S16384x32, .f32⟩
  | 2 => ⟨S32, .f32⟩
  | 3 => ⟨S_, .f32⟩
  | 4 => ⟨S16384, .f32⟩
  | 5 => ⟨S_, .f32⟩
  | 6 => ⟨S16384, .f32⟩
  | 7 => ⟨S16384, .f32⟩
  | 8 => ⟨S16384x1, .f32⟩
  | 9 => ⟨S16384x32, .f32⟩
  | 10 => ⟨S16384x32, .f32⟩
  | 11 => ⟨S16384x32, .f32⟩
  | 12 => ⟨S_, .f32⟩
  | 13 => ⟨S16384, .f32⟩
  | 14 => ⟨S16384x1, .f32⟩
  | 15 => ⟨S16384x32, .f32⟩
  | 16 => ⟨S16384x32, .f32⟩
  | 17 => ⟨S16384x32, .i32⟩
  | 18 => ⟨S_, .f32⟩
  | 19 => ⟨S_, .i32⟩
  | 20 => ⟨S16384, .f32⟩
  | 21 => ⟨S16384, .i32⟩
  | 22 => ⟨S16384x32, .i32⟩
  | 23 => ⟨S_, .f32⟩
  | 24 => ⟨S_, .i32⟩
  | 25 => ⟨S16384, .f32⟩
  | 26 => ⟨S16384, .i32⟩
  | 27 => ⟨S_, .f32⟩
  | 28 => ⟨S32x32, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x1, .i32⟩
  | 45 => ⟨S16384x2, .i32⟩
  | 46 => ⟨S_, .f32⟩
  | 47 => ⟨S16384, .f32⟩
  | 48 => ⟨S32x32, .f32⟩
  | 49 => ⟨S32, .i32⟩
  | 50 => ⟨S32x1, .i32⟩
  | 51 => ⟨S1x32, .i32⟩
  | 52 => ⟨S32x32, .i32⟩
  | 53 => ⟨S32x32, .i32⟩
  | 54 => ⟨S32x32, .i1⟩
  | 55 => ⟨S_, .f32⟩
  | 56 => ⟨S_, .f32⟩
  | 57 => ⟨S32x32, .f32⟩
  | 58 => ⟨S32x32, .f32⟩
  | 59 => ⟨S_, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S32, .f32⟩
  | 89 => ⟨S_, .f32⟩
  | 90 => ⟨S_, .f32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S16384, .f32⟩
  | 100 => ⟨S_, .f32⟩
  | 101 => ⟨S_, .f32⟩
  | 102 => ⟨S_, .f32⟩
  | 103 => ⟨S_, .f32⟩
  | 104 => ⟨S16384, .f32⟩
  | 105 => ⟨S_, .f32⟩
  | 106 => ⟨S16384, .f32⟩
  | 107 => ⟨S16384, .f32⟩
  | 108 => ⟨S16384x1, .f32⟩
  | 109 => ⟨S16384x32, .f32⟩
  | 110 => ⟨S16384x32, .f32⟩
  | 111 => ⟨S16384x32, .f32⟩
  | 112 => ⟨S_, .f32⟩
  | 113 => ⟨S16384, .f32⟩
  | 114 => ⟨S16384x1, .f32⟩
  | 115 => ⟨S16384x1, .f32⟩
  | 116 => ⟨S16384x32, .f32⟩
  | 117 => ⟨S16384x32, .f32⟩
  | 118 => ⟨S1x32, .f32⟩
  | 119 => ⟨S16384x32, .f32⟩
  | 120 => ⟨S16384x32, .f32⟩
  | 121 => ⟨S16384x32, .f32⟩
  | 122 => ⟨S_, .f32⟩
  | 123 => ⟨S16384, .f32⟩
  | 124 => ⟨S16384, .f32⟩
  | 125 => ⟨S_, .f32⟩
  | 126 => ⟨S_, .f32⟩
  | 127 => ⟨S_, .f32⟩
  | _ => ⟨S16384x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S16384x32, .f32⟩

abbrev hbmTy (i : Nat) : BufTy := match i / 128 with
  | 0 => hbmTy0_0 i
  | 1 => hbmTy0_1 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_c : Ref sig .tc := ⟨.hbm, 24, rfl⟩
abbrev main_call1_v1_0 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_17 : Ref sig .tc := ⟨.hbm, 89, rfl⟩
abbrev main_v57 : Ref sig .tc := ⟨.hbm, 90, rfl⟩
abbrev main_c_18 : Ref sig .tc := ⟨.hbm, 91, rfl⟩
abbrev main_v58 : Ref sig .tc := ⟨.hbm, 92, rfl⟩
abbrev main_v59 : Ref sig .tc := ⟨.hbm, 93, rfl⟩
abbrev main_c_19 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_20 : Ref sig .tc := ⟨.hbm, 100, rfl⟩
abbrev main_v65 : Ref sig .tc := ⟨.hbm, 101, rfl⟩
abbrev main_v66 : Ref sig .tc := ⟨.hbm, 102, rfl⟩
abbrev main_call3_cst : Ref sig .tc := ⟨.hbm, 103, rfl⟩
abbrev main_call3_v0 : Ref sig .tc := ⟨.hbm, 104, rfl⟩
abbrev main_call3_cst_0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_cst_1 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_21 : Ref sig .tc := ⟨.hbm, 122, rfl⟩
abbrev main_v72 : Ref sig .tc := ⟨.hbm, 123, rfl⟩
abbrev main_v73 : Ref sig .tc := ⟨.hbm, 124, rfl⟩
abbrev main_cst_22 : Ref sig .tc := ⟨.hbm, 125, rfl⟩
abbrev main_v74 : Ref sig .tc := ⟨.hbm, 126, rfl⟩
abbrev main_cst_23 : Ref sig .tc := ⟨.hbm, 127, rfl⟩
abbrev main_v75 : Ref sig .tc := ⟨.hbm, 128, rfl⟩
abbrev main_cst_24 : Ref sig .tc := ⟨.hbm, 129, rfl⟩
abbrev main_v76 : Ref sig .tc := ⟨.hbm, 130, rfl⟩
abbrev main_cst_25 : Ref sig .tc := ⟨.hbm, 131, rfl⟩
abbrev main_v77 : Ref sig .tc := ⟨.hbm, 132, rfl⟩
abbrev main_v78 : Ref sig .tc := ⟨.hbm, 133, rfl⟩

abbrev nD : Nat := 1
abbrev τ : Topo := Topo.v7x

variable {F : FTy → Type} [FloatOps F]
-- ==== Proof.Base.lean ====
/-
  The launch of the histogram call as the certificate sees it: the program's configuration, its ghost state, the
  memrefs of one vector subcore, and the windows its copies move.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the copies' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

/-- The handshakes' rounds, the left factor; -/
abbrev EH : Emb UH (MT nD τ sig (HIx 1) (Elt F) ℕ UU ℕ) := embL

/-! ## The memrefs of one vector subcore, spelt as the body table passes them -/

abbrev cV (L : grid1.Coords) : Fin τ.nSC := (L 0).castLE hcore1
abbrev jV (L : grid1.Coords) : Fin τ.nSub := (L 1).castLE hsub1
/-- The vector subcore at grid point `L` of device `d`. -/
abbrev thr (d : Dev nD) (L : grid1.Coords) : Thread nD τ := V d (cV L) (jV L)

abbrev xLoc (d : Dev nD) : Loc nD τ sig := (SparseCore.T d).loc main_v3
abbrev gLoc (d : Dev nD) : Loc nD τ sig := (SparseCore.T d).loc main_v5
abbrev oLoc (d : Dev nD) : Loc nD τ sig := (SparseCore.T d).loc main_v6

/-- Block `c` of a class-major scratch: the 512 rows of class `c`. -/
theorem inbBlk (c : Fin 32) : ∀ a, (![512 * c.val] : Fin 1 → Nat) a + S512.size a ≤ S16384.size a := by
  have := c.isLt; intro a; obtain rfl : a = 0 := Subsingleton.elim _ _
  show 512 * c.val + 512 ≤ 16384; omega

/-- The slice of a class-major table that the subcore at `L` copies for class `c`, and where it lands. -/
abbrev srcRect (L : grid1.Coords) (c : Fin 32) : Rect S524288 :=
  Rect.unit (s := S524288) (k1_off1 L (BitVec.ofNat 32 (16384 * c.val))) S512.size (k1_off1_inb L c)
abbrev dstRect (c : Fin 32) : Rect S16384 := Rect.unit (s := S16384) ![512 * c.val] S512.size (inbBlk c)
abbrev xW (L : grid1.Coords) (c : Fin 32) : Memref sig .scVector .hbm S512 .f32 := (Memref.whole main_v3_scv : Memref sig .scVector .hbm S524288 .f32).slice (srcRect L c) (fun _ => rfl)
abbrev gW (L : grid1.Coords) (c : Fin 32) : Memref sig .scVector .hbm S512 .f32 := (Memref.whole main_v5_scv : Memref sig .scVector .hbm S524288 .f32).slice (srcRect L c) (fun _ => rfl)
abbrev xB (c : Fin 32) : Memref sig .scVector .vmem S512 .f32 := (Memref.whole cc1_scratch0 : Memref sig .scVector .vmem S16384 .f32).slice (dstRect c) (fun _ => rfl)
abbrev gB (c : Fin 32) : Memref sig .scVector .vmem S512 .f32 := (Memref.whole cc1_scratch1 : Memref sig .scVector .vmem S16384 .f32).slice (dstRect c) (fun _ => rfl)

abbrev oW (L : grid1.Coords) : Memref sig .scVector .hbm S96 .f32 :=
  ((Memref.whole main_v6_scv : Memref sig .scVector .hbm S32x96 .f32).slice (Rect.unit (s := S32x96) (k1_off3 L) S1x96.size (k1_off3_inb L)) (fun _ => rfl)).squeeze S96 squeezes_S1x96_S96

section Res
variable (d : Dev nD) (L : grid1.Coords)

/-- A window held by exactly its own elements. -/
abbrev own {sp : Space} {s : Shape} (M : Memref sig .scVector sp s .f32) (f : Buf (Elt F) (M.view.loc (thr d L))) : sProp 𝕄 :=
  M.view.loc (thr d L) ↦[M.view.set]{fullShare} f

/-- What the copy of class `c` hands back: its block landed, and its source. -/
abbrev delivX (fs : Buf (Elt F) (((Memref.whole main_v3_scv : Memref sig .scVector .hbm S524288 .f32)).view.loc (thr d L))) (fd : Buf (Elt F) (((Memref.whole cc1_scratch0 : Memref sig .scVector .vmem S16384 .f32)).view.loc (thr d L))) (c : Fin 32) : sProp 𝕄 :=
  iprop(own d L (xB c) ((xB c).view.writes (Elt F) fd [⟨Rect.whole S512, ReadAs.same.apply ((xW L c).view.read (Elt F) fs)⟩])
    ∗ own d L (xW L c) fs)
abbrev delivG (fs : Buf (Elt F) (((Memref.whole main_v5_scv : Memref sig .scVector .hbm S524288 .f32)).view.loc (thr d L))) (fd : Buf (Elt F) (((Memref.whole cc1_scratch1 : Memref sig .scVector .vmem S16384 .f32)).view.loc (thr d L))) (c : Fin 32) : sProp 𝕄 :=
  iprop(own d L (gB c) ((gB c).view.writes (Elt F) fd [⟨Rect.whole S512, ReadAs.same.apply ((gW L c).view.read (Elt F) fs)⟩])
    ∗ own d L (gW L c) fs)

/-- Thirty-two summands, one by one. -/
theorem chain32 (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [Transfers.bigSep_pending_zero]
  iterate 31 rw [Transfers.bigSep_pending_step _ _ (by omega)]
  rw [Transfers.bigSep_pending_last _ _ (by omega) rfl]
  rfl

end Res

end Cert.Proof.Hist

end
-- ==== Proof.Spec.lean ====
/-
  What one vector subcore of the histogram call computes, as plain functions: the classes by trees of comparisons, the
  bins after each group of sixteen rows, and the row of 96 sums it writes out.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

/-! ## What one vector subcore computes, as plain functions of the two blocks it holds -/

/-- The index `n` of a rank-one block of 16384 (every `n` used is below that). -/
abbrev at16384 (n : ℕ) : S16384.Idx := Shape.ofLane (d := ![16384]) ⟨n % 16384, Nat.mod_lt _ (by decide)⟩
/-- The index `n` of a class-major table of all 16384 rows. -/
abbrev at524288 (n : ℕ) : S524288.Idx := Shape.ofLane (d := ![524288]) ⟨n % 524288, Nat.mod_lt _ (by decide)⟩
/-- The index `n` of the 1536 bins. -/
abbrev at1536 (n : ℕ) : S1536.Idx := Shape.ofLane (d := ![1536]) ⟨n % 1536, Nat.mod_lt _ (by decide)⟩

/-- The sixteen rows of group `t` at class `k`, out of a class-major block of 512 rows. -/
def blk (X : FVec F S16384 .f32) (t : ℕ) (k : Fin 32) : FVec F S16 .f32 := fun l => X (at16384 (512 * k.val + 16 * t + (l 0).val))

/-- One comparison: the greater value, and the index that goes with it, the left one on a tie. -/
def node (a b : FVec F S16 .f32 × IVec S16 32) : FVec F S16 .f32 × IVec S16 32 :=
  (maximumf a.1 b.1, select (cmpf .oge a.1 b.1) a.2 b.2)
/-- A leaf: class `k`'s values and its number. -/
def leaf (v : Fin 32 → FVec F S16 .f32) (k : Fin 32) : FVec F S16 .f32 × IVec S16 32 := (v k, broadcast S16 (BitVec.ofNat 32 k.val))

/-- The trees over two, four and eight adjacent classes. -/
def tree1 (v : Fin 32 → FVec F S16 .f32) (k : Fin 16) := node (leaf v ⟨2 * k.val, by omega⟩) (leaf v ⟨2 * k.val + 1, by omega⟩)
def tree2 (v : Fin 32 → FVec F S16 .f32) (k : Fin 8) := node (tree1 v ⟨2 * k.val, by omega⟩) (tree1 v ⟨2 * k.val + 1, by omega⟩)
def tree3 (v : Fin 32 → FVec F S16 .f32) (k : Fin 4) := node (tree2 v ⟨2 * k.val, by omega⟩) (tree2 v ⟨2 * k.val + 1, by omega⟩)
/-- The four trees of eight, joined from the left. -/
def chain (v : Fin 32 → FVec F S16 .f32) := node (node (node (tree3 v 0) (tree3 v 1)) (tree3 v 2)) (tree3 v 3)
/-- Each lane's winning class. -/
def argTree (v : Fin 32 → FVec F S16 .f32) : IVec S16 32 := (chain v).2

/-- A tree's index vector names a class in every lane. -/
def Names (p : FVec F S16 .f32 × IVec S16 32) : Prop := ∀ l, (p.2 l).toNat < 32

theorem names_leaf (v : Fin 32 → FVec F S16 .f32) (k : Fin 32) : Names (leaf v k) := by
  intro l
  show (BitVec.ofNat 32 k.val).toNat < 32
  rw [BitVec.toNat_ofNat]; have := k.isLt; omega

theorem names_node {a b : FVec F S16 .f32 × IVec S16 32} (ha : Names a) (hb : Names b) : Names (node a b) := by
  intro l
  show (if cmpf .oge a.1 b.1 l = 1#1 then a.2 l else b.2 l).toNat < 32
  split
  · exact ha l
  · exact hb l

theorem argTree_lt (v : Fin 32 → FVec F S16 .f32) (l : S16.Idx) : (argTree v l).toNat < 32 :=
  have h1 : ∀ k, Names (tree1 v k) := fun _ => names_node (names_leaf v _) (names_leaf v _)
  have h2 : ∀ k, Names (tree2 v k) := fun _ => names_node (h1 _) (h1 _)
  have h3 : ∀ k, Names (tree3 v k) := fun _ => names_node (h2 _) (h2 _)
  names_node (names_node (names_node (h3 0) (h3 1)) (h3 2)) (h3 3) l

/-! ### The three bin indices of each lane -/

/-- The row bins: class plus 32 times the lane. -/
def ixA (v : IVec S16 32) : IVec S16 32 := addi v k1_pay72
/-- The column bins, 512 further; the hit bins, 1024 further. -/
def ixB (v : IVec S16 32) : IVec S16 32 := addi (ixA v) (broadcast S16 512#32)
def ixC (v : IVec S16 32) : IVec S16 32 := addi (ixA v) (broadcast S16 1024#32)

theorem ixA_toNat {v : IVec S16 32} (hv : ∀ l, (v l).toNat < 32) (l : S16.Idx) : (ixA v l).toNat = (v l).toNat + 32 * (l 0).val := by
  have hl : (l 0).val < 16 := (l 0).isLt
  have := hv l
  show (v l + (BitVec.ofNat 32 (0 * 16 + (l 0).val)) * 32#32).toNat = _
  rw [BitVec.toNat_add, BitVec.toNat_mul, BitVec.toNat_ofNat]
  simp only [BitVec.toNat_ofNat]; omega

theorem ixB_toNat {v : IVec S16 32} (hv : ∀ l, (v l).toNat < 32) (l : S16.Idx) : (ixB v l).toNat = (v l).toNat + 32 * (l 0).val + 512 := by
  have hl : (l 0).val < 16 := (l 0).isLt
  have := hv l
  show (ixA v l + 512#32).toNat = _
  rw [BitVec.toNat_add, ixA_toNat hv]
  simp only [BitVec.toNat_ofNat]; omega

theorem ixC_toNat {v : IVec S16 32} (hv : ∀ l, (v l).toNat < 32) (l : S16.Idx) : (ixC v l).toNat = (v l).toNat + 32 * (l 0).val + 1024 := by
  have hl : (l 0).val < 16 := (l 0).isLt
  have := hv l
  show (ixA v l + 1024#32).toNat = _
  rw [BitVec.toNat_add, ixA_toNat hv]
  simp only [BitVec.toNat_ofNat]; omega

theorem chkA (v : Fin 32 → FVec F S16 .f32) : k1_chk1 (ixA (argTree v)) := by
  intro a l; obtain rfl : a = 0 := Subsingleton.elim _ _
  show (ixA (argTree v) l).toNat < 1536
  have hl : (l 0).val < 16 := (l 0).isLt
  rw [ixA_toNat (argTree_lt v)]; have := argTree_lt v l; omega
theorem chkB (v : Fin 32 → FVec F S16 .f32) : k1_chk2 (ixB (argTree v)) := by
  intro a l; obtain rfl : a = 0 := Subsingleton.elim _ _
  show (ixB (argTree v) l).toNat < 1536
  have hl : (l 0).val < 16 := (l 0).isLt
  rw [ixB_toNat (argTree_lt v)]; have := argTree_lt v l; omega
theorem chkC (v : Fin 32 → FVec F S16 .f32) : k1_chk3 (ixC (argTree v)) := by
  intro a l; obtain rfl : a = 0 := Subsingleton.elim _ _
  show (ixC (argTree v) l).toNat < 1536
  have hl : (l 0).val < 16 := (l 0).isLt
  rw [ixC_toNat (argTree_lt v)]; have := argTree_lt v l; omega

/-! ### The bins after each group, and the row written out -/

/-- The bins after one more group of sixteen rows: a one added at each lane's class of `g`, at its class of `x`, and where the two agree. -/
def step (x g : Fin 32 → FVec F S16 .f32) (B : FVec F S1536 .f32) : FVec F S1536 .f32 :=
  storeIdx (e := .f32)
    (storeIdx (e := .f32)
      (storeIdx (e := .f32) B ![ixA (argTree g)] k1_pay73 (fun _ => 1#1) true (k1_idx1_inb _ (chkA g)))
      ![ixB (argTree x)] k1_pay73 (fun _ => 1#1) true (k1_idx2_inb _ (chkB x)))
    ![ixC (argTree g)] k1_pay73 (cmpi .eq (argTree g) (argTree x)) true (k1_idx3_inb _ (chkC g))

/-- The bins after the first `n` groups, from all zero. -/
def bins (X G : FVec F S16384 .f32) : ℕ → FVec F S1536 .f32
  | 0 => fun _ => Scalar.ofBits .f32 0x00000000#32
  | n + 1 => step (blk X n) (blk G n) (bins X G n)

/-- Sixteen lanes' copies of sixteen adjacent bins, from bin `o`. -/
def binLoad (B : FVec F S1536 .f32) (o : ℕ) (l : ℕ) : FVec F S16 .f32 := fun x => B (at1536 (o + 32 * l + (x 0).val))
/-- The sum over the first `n` lanes, in order, from zero. -/
def binSum (B : FVec F S1536 .f32) (o : ℕ) : ℕ → FVec F S16 .f32
  | 0 => broadcast S16 (Scalar.ofBits .f32 0x00000000#32)
  | n + 1 => addf (binSum B o n) (binLoad B o n)

/-- The row of 96: three sections of 32 classes, each summed over the sixteen lanes. -/
def resOf (B : FVec F S1536 .f32) : FVec F S96 .f32 := fun ι =>
  binSum B (512 * ((ι 0).val / 32) + 16 * ((ι 0).val % 32 / 16)) 16 (Shape.ofLane (d := ![16]) ⟨(ι 0).val % 16, Nat.mod_lt _ (by decide)⟩)

/-- The rows that subcore `w` copies out of a class-major table of 16384 rows: `512 w` and the 511 after it, class by class. -/
def stage (f : FVec F S524288 .f32) (w : ℕ) : FVec F S16384 .f32 := fun ι =>
  f (at524288 (16384 * ((ι 0).val / 512) + (512 * w + (ι 0).val % 512)))

/-- Row `w` of the parts: what subcore `w` writes out, from the two class-major tables. -/
def rowOf (fx fg : FVec F S524288 .f32) (w : ℕ) : FVec F S96 .f32 := resOf (bins (stage fx w) (stage fg w) 32)

/-- All thirty-two rows. -/
def parts (fx fg : FVec F S524288 .f32) : FVec F S32x96 .f32 := fun ι => rowOf fx fg (ι 0).val (Shape.ofLane (d := ![96]) (ι 1))

end Cert.Proof.Hist

end
-- ==== Proof.Calls.lean ====
/-
  The bodies of the two TensorCore calls, run from their staging buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

local notation "𝕄" => MT nD τ sig (HIx 1) (Elt F) ℕ UU ℕ

/-- One TensorCore buffer, held whole. -/
abbrev pt (d : Dev nD) {sp : Space} {s : Shape} (M : Memref sig .tc sp s .f32) (f : Buf (Elt F) (M.view.loc (T d : Thread nD τ))) : sProp 𝕄 :=
  M.view.loc (T d : Thread nD τ) ↦{fullShare} f

theorem zz2 : (![0, 0] : Fin 2 → Nat) = fun _ => 0 := by
  funext a; fin_cases a <;> rfl

omit [FloatOps F] in
/-- A store of a whole buffer leaves exactly what is stored. -/
theorem writes_all (b : Ref sig .tc) {off : Fin b.ty.shape.rank → Nat} (h : off = fun _ => 0)
    (inb : ∀ a, off a + b.ty.shape.size a ≤ b.ty.shape.size a) (f w : b.ty.Contents (Elt F)) :
    (Memref.whole b : Memref sig .tc _ _ _).view.writes (Elt F) f [⟨Rect.unit off b.ty.shape.size inb, w⟩] = w :=
  Memref.write_access_unit_zero_univ (Elt F) b h inb f w

/-- The loss `-(Σ ground_truth·class_weights·log(softmax))` the first TensorCore call leaves in its 1×1 result. -/
abbrev cceOut (x g : FVec F S16384x32 .f32) (w : FVec F S1x32 .f32) : FVec F S1x1 .f32 := k0_pay1 x g w

/-- The weighted sum of the two losses the second TensorCore call leaves in its 1×1 result. -/
def combOut (c : FVec F S1x1 .f32) (p : FVec F S32x96 .f32) (w : FVec F S1x32 .f32) : FVec F S1x1 .f32 :=
  k2_pay1 (k2_pay2 p w) (k2_pay3 c) (Scalar.ofBits .f32 0x3DCCCCCD#32)

set_option maxHeartbeats 4000000 in
/-- The first call's body: the three operands unchanged, the result at `cceOut`. -/
theorem cce_run (d : Dev nD) (x g : FVec F S16384x32 .f32) (w : FVec F S1x32 .f32) (o : FVec F S1x1 .f32) (Q : PUnit → sProp 𝕄) :
    (iprop(pt d (Memref.whole cc0_stg0_0) x ∗ pt d (Memref.whole cc0_stg1_0) g ∗ pt d (Memref.whole cc0_stg2_0) w ∗ pt d (Memref.whole cc0_stg3_0) o
        ∗ (iprop(pt d (Memref.whole cc0_stg0_0) x ∗ pt d (Memref.whole cc0_stg1_0) g ∗ pt d (Memref.whole cc0_stg2_0) w ∗ pt d (Memref.whole cc0_stg3_0) (cceOut x g w)) -∗ Q ⟨⟩)) : sProp 𝕄)
      ⊢ wp frame (wpE (defs₀ (F := F)) 𝒱₀ (T d : Thread nD τ) none) Set.univ
          (cc0__cce_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)) Q := by
  iintro ⟨H0, H1, H2, H3, Hk⟩
  rw [cc0__cce_body_eq_skeleton]
  sl_exec_parts
  sl_step
  iapply Hk
  isplitl [H0]; · iexact H0
  isplitl [H1]; · iexact H1
  isplitl [H2]; · iexact H2
  ihave H := (Entails.of_eq (congrArg (pt d (Memref.whole cc0_stg3_0)) (a₂ := cceOut x g w) ?_)) $$ H3; swap; · iexact H
  refine (writes_all cc0_stg3_0 zz2 _ o _).trans ?_
  exact congr (congrArg₂ k0_pay1 (Memref.readAt_unit_zero (Elt F) cc0_stg0_0 zz2 _ x) (Memref.readAt_unit_zero (Elt F) cc0_stg1_0 zz2 _ g)) (Memref.readAt_unit_zero (Elt F) cc0_stg2_0 zz2 _ w)

set_option maxHeartbeats 4000000 in
/-- The second call's body: the three operands unchanged, the result at `combOut`. -/
theorem comb_run (d : Dev nD) (x : FVec F S1x1 .f32) (g : FVec F S32x96 .f32) (w : FVec F S1x32 .f32) (o : FVec F S1x1 .f32) (Q : PUnit → sProp 𝕄) :
    (iprop(pt d (Memref.whole cc2_stg0_0) x ∗ pt d (Memref.whole cc2_stg1_0) g ∗ pt d (Memref.whole cc2_stg2_0) w ∗ pt d (Memref.whole cc2_stg3_0) o
        ∗ (iprop(pt d (Memref.whole cc2_stg0_0) x ∗ pt d (Memref.whole cc2_stg1_0) g ∗ pt d (Memref.whole cc2_stg2_0) w ∗ pt d (Memref.whole cc2_stg3_0) (combOut x g w)) -∗ Q ⟨⟩)) : sProp 𝕄)
      ⊢ wp frame (wpE (defs₀ (F := F)) 𝒱₀ (T d : Thread nD τ) none) Set.univ
          (cc2__combine_body (Memref.whole cc2_stg0_0) (Memref.isWhole_whole _) (Memref.whole cc2_stg1_0) (Memref.isWhole_whole _)
            (Memref.whole cc2_stg2_0) (Memref.isWhole_whole _) (Memref.whole cc2_stg3_0) (Memref.isWhole_whole _)) Q := by
  iintro ⟨H0, H1, H2, H3, Hk⟩
  rw [cc2__combine_body_eq_skeleton]
  sl_exec_parts
  sl_step
  iapply Hk
  isplitl [H0]; · iexact H0
  isplitl [H1]; · iexact H1
  isplitl [H2]; · iexact H2
  ihave H := (Entails.of_eq (congrArg (pt d (Memref.whole cc2_stg3_0)) (a₂ := combOut x g w) ?_)) $$ H3; swap; · iexact H
  refine (writes_all cc2_stg3_0 zz2 _ o _).trans ?_
  unfold comb_run.sl.r comb_run.sl.r_1 comb_run.sl.cst_14
  exact congrArg₂ (fun a b => k2_pay1 a b (Scalar.ofBits .f32 0x3DCCCCCD#32)) (congrArg₂ k2_pay2 (Memref.readAt_unit_zero (Elt F) cc2_stg1_0 zz2 _ g) (Memref.readAt_unit_zero (Elt F) cc2_stg2_0 zz2 _ w)) (congrArg k2_pay3 (Memref.readAt_unit_zero (Elt F) cc2_stg0_0 zz2 _ x))

end Cert.Proof.Hist

end
-- ==== Proof.Regions.lean ====
/-
  The two TensorCore calls as regions: each a step of the TensorCore between two states of its buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base
public import proofs.«01_k».proof.Proof.Calls
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit.Geometry

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Idealize.ShloMosaic.Pipeline (Dat Cfg Window BodyObligation cellOf)
open Idealize.ShloMosaic.TcCoe

variable [FloatOps F]

local notation "𝕄" => MT nD τ sig (HIx 1) (Elt F) ℕ UU ℕ

/-- What the TensorCore's buffers hold, on each device. -/
abbrev Vals (F : FTy → Type) : Type := (d : Dev nD) → (b : Ref sig .tc) → Buf (Elt F) ((d : Thread nD τ).loc b)

/-- No pipeline takes a table. -/
abbrev adm : (p : Fin 2) → (pcfgs (F := F) p).Adm := fun p => (cfgs p).toPCfg_adm

/-- Proof data for a pipeline that is not the one being run: anything. -/
def junkDat {cfg : Cfg sig Λ₀} (d : Dev nD) : Dat τ (Elt F) (HIx 1) ℕ UU ℕ cfg d where
  A _ := fun _ => Classical.arbitrary _
  after _ _ := fun _ => Classical.arbitrary _
  Φ _ := BI.emp
  q _ := fullShare
  owed _ := 0

/-! ## The first call -/

/-- The call's result, over the contents its operands hold when it is entered. -/
def out0 (V : Vals F) (d : Dev nD) : FVec F S1x1 .f32 := cceOut (V d main_arg0) (V d main_arg1) (V d main_v0)

/-- The proof data of the call, entered at contents `V` with debt `O` and recorded waits within `B`: the operands' staging
    buffers as fetched, the result's at the call's value. -/
def dat0 (V : Vals F) (O : CellTallies nD τ sig (HIx 1)) (B : Set (SemLoc sig × HIx 1)) (d : Dev nD) : Dat τ (Elt F) (HIx 1) ℕ UU ℕ cfg0 d where
  A w := V d (Pipeline.arrRef spec0 w)
  after w _ := match w with
    | ⟨0, _⟩ => V d main_arg0
    | ⟨1, _⟩ => V d main_arg1
    | ⟨2, _⟩ => V d main_v0
    | ⟨3, _⟩ => out0 V d
  Φ _ := Pipeline.scopedRest (Ix := HIx 1) (Name := ℕ) (U := UU) (Lvl := ℕ) (Val := Elt F) spec0 d
  q _ := fullShare
  owed _ := O
  recorded _ := B

theorem before0 (V : Vals F) (O : CellTallies nD τ sig (HIx 1)) (B : Set (SemLoc sig × HIx 1)) (d : Dev nD) :
    (∀ x, (dat0 V O B d).before 0 t0_0 x = V d main_arg0) ∧ (∀ x, (dat0 V O B d).before 1 t0_0 x = V d main_arg1)
      ∧ (∀ x, (dat0 V O B d).before 2 t0_0 x = V d main_v0) := by
  refine ⟨fun x => ?_, fun x => ?_, fun x => ?_⟩ <;> (unfold Dat.before; rw [if_pos (by decide)])
  · refine funext fun i => congrArg (V d main_arg0) (funext fun a => Fin.ext ?_)
    exact Window.rect_emb_val_of_index_zero (cfg0.win 0) t0_0 a (by revert a; decide +kernel) _
  · refine funext fun i => congrArg (V d main_arg1) (funext fun a => Fin.ext ?_)
    exact Window.rect_emb_val_of_index_zero (cfg0.win 1) t0_0 a (by revert a; decide +kernel) _
  · refine funext fun i => congrArg (V d main_v0) (funext fun a => Fin.ext ?_)
    exact Window.rect_emb_val_of_index_zero (cfg0.win 2) t0_0 a (by revert a; decide +kernel) _

theorem body_obligation0 (V : Vals F) (O : CellTallies nD τ sig (HIx 1)) (B : Set (SemLoc sig × HIx 1)) (d : Dev nD) :
    BodyObligation (dat0 V O B d) (defs₀ (F := F)) 𝒱₀ none Set.univ := fun t => by
  obtain rfl := fin_N0 t
  obtain ⟨h0, h1, h2⟩ := before0 V O B d
  rw [bigSep_W0, bigSep_W0]
  simp only [owns_whole_eq]
  rw [show (dat0 V O B d).owesAt none t0_0.succ = (dat0 V O B d).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [h0] at hf0
  rw [h1] at hf1
  rw [h2] at hf2
  subst hf0 hf1 hf2
  iapply (cce_run d _ _ _ f3 _)
  isplitl [H0]; · iexact H0
  isplitl [H1]; · iexact H1
  isplitl [H2]; · iexact H2
  isplitl [H3]; · iexact H3
  iintro ⟨H0, H1, H2, H3⟩
  isplitl [HΦ]; · iapply (Entails.of_eq (show (dat0 V O B d).Φ t0_0.castSucc = (dat0 V O B d).Φ t0_0.succ from rfl)); iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

theorem final0 (V : Vals F) (O : CellTallies nD τ sig (HIx 1)) (B : Set (SemLoc sig × HIx 1)) (d : Dev nD) :
    (dat0 V O B d).arrAt 3 cfg0.N = out0 V d := by
  refine (dat0 V O B d).arrAt_eq_of_after_last 3 t0_0 (by decide +kernel) _ fun j => ?_
  rfl

/-- The proof data of every pipeline, this call's at its own. -/
def pdats0 (V : Vals F) (O : CellTallies nD τ sig (HIx 1)) (B : Set (SemLoc sig × HIx 1)) :
    (p : Fin 2) → (d : Dev nD) → Dat τ (Elt F) (HIx 1) ℕ UU ℕ (Pipeline.pin (pcfgs (F := F)) adm p) d
  | ⟨0, _⟩ => fun d => dat0 V O B d
  | ⟨1, _⟩ => fun d => junkDat d

set_option backward.isDefEq.respectTransparency.types false in
/-- The call as a step between states of the TensorCore's unscoped buffers: from `V` to any `V'` that differs from `V`
    only in the result, which it has at the call's value. -/
def reg0 (V V' : Vals F) (O : CellTallies nD τ sig (HIx 1)) (hO : ∀ g, O g none = 0) (B : Set (SemLoc sig × HIx 1))
    (hB : ∀ s, (s, (none : HIx 1)) ∈ B)
    (hout : ∀ d, V' d main_v1 = out0 V d) (hne : ∀ d (b : Ref sig .tc), b ≠ main_v1 → V' d b = V d b) :
    Pipeline.RegionSeg (pcfgs (F := F)) adm (pdats0 V O B) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation0 V O B d).loose
  hwaits d := Pipeline.cellsWaits_intro _ _ _ _ d fun w s t => (K (F := F)).mayWait_none _ hO
  pre d := iprop(unscopedBufs d (V d) ∗ ∃ W, ⌜∀ p ∈ W, p ∈ B⌝ ∗ owes (d.tc : Thread nD τ) O W)
  post d := iprop(unscopedBufs d (V' d) ∗ ∃ W, ⌜∀ p ∈ W, p ∈ B⌝ ∗ owes (d.tc : Thread nD τ) O W)
  X _ := BI.emp
  Y _ := BI.emp
  Z d := Pipeline.unscopedRest (Ix := HIx 1) (Name := ℕ) (U := UU) (Lvl := ℕ) spec0 d (V d)
  hentry d := by
    rw [Pipeline.ownSems0_none]
    have hsplit := Pipeline.arrays_of_unscopedBufs (p := 0) (pcfgs (F := F)) adm (pdats0 V O B) launch0.win launch0.arr_whole d
      ((pdats0 V O B 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats0 V O B 0 d).Φ 0 = Pipeline.scopedRest (Ix := HIx 1) (Name := ℕ) (U := UU) (Lvl := ℕ) (Val := Elt F) spec0 d from rfl]
    iintro ⟨-, -, Hr⟩; iexact Hr
  hout d := by
    rw [Pipeline.ownSems0_none, show (pdats0 V O B 0 d).Φ (Fin.last _) = Pipeline.scopedRest (Ix := HIx 1) (Name := ℕ) (U := UU) (Lvl := ℕ) (Val := Elt F) spec0 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch0.win launch0.arr_whole d
      (pdats0 V O B) ((pdats0 V O B 0 d).share_full fun _ => rfl) (V d) (V' d) ((pdats0 V O B 0 d).arrAt · cfg0.N)
      (fun w => by
        fin_cases w
        · exact ((pdats0 V O B 0 d).arrAt_in 0 rfl _).trans (hne d main_arg0 (by decide)).symm
        · exact ((pdats0 V O B 0 d).arrAt_in 1 rfl _).trans (hne d main_arg1 (by decide)).symm
        · exact ((pdats0 V O B 0 d).arrAt_in 2 rfl _).trans (hne d main_v0 (by decide)).symm
        · exact (final0 V O B d).trans (hout d).symm)
      (fun b hb => hne d b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact hB _
    iexact HO

/-! ## The second call -/

/-- The call's result, over the contents its operands hold when it is entered. -/
def out2 (V : Vals F) (d : Dev nD) : FVec F S1x1 .f32 := combOut (V d main_v1) (V d main_v6) (V d main_v0)

/-- The proof data of the call, entered at contents `V` with debt `O` and recorded waits within `B`: the operands' staging
    buffers as fetched, the result's at the call's value. -/
def dat2 (V : Vals F) (O : CellTallies nD τ sig (HIx 1)) (B : Set (SemLoc sig × HIx 1)) (d : Dev nD) : Dat τ (Elt F) (HIx 1) ℕ UU ℕ cfg2 d where
  A w := V d (Pipeline.arrRef spec2 w)
  after w _ := match w with
    | ⟨0, _⟩ => V d main_v1
    | ⟨1, _⟩ => V d main_v6
    | ⟨2, _⟩ => V d main_v0
    | ⟨3, _⟩ => out2 V d
  Φ _ := Pipeline.scopedRest (Ix := HIx 1) (Name := ℕ) (U := UU) (Lvl := ℕ) (Val := Elt F) spec2 d
  q _ := fullShare
  owed _ := O
  recorded _ := B

theorem before2 (V : Vals F) (O : CellTallies nD τ sig (HIx 1)) (B : Set (SemLoc sig × HIx 1)) (d : Dev nD) :
    (∀ x, (dat2 V O B d).before 0 t2_0 x = V d main_v1) ∧ (∀ x, (dat2 V O B d).before 1 t2_0 x = V d main_v6)
      ∧ (∀ x, (dat2 V O B d).before 2 t2_0 x = V d main_v0) := by
  refine ⟨fun x => ?_, fun x => ?_, fun x => ?_⟩ <;> (unfold Dat.before; rw [if_pos (by decide)])
  · refine funext fun i => congrArg (V d main_v1) (funext fun a => Fin.ext ?_)
    exact Window.rect_emb_val_of_index_zero (cfg2.win 0) t2_0 a (by revert a; decide +kernel) _
  · refine funext fun i => congrArg (V d main_v6) (funext fun a => Fin.ext ?_)
    exact Window.rect_emb_val_of_index_zero (cfg2.win 1) t2_0 a (by revert a; decide +kernel) _
  · refine funext fun i => congrArg (V d main_v0) (funext fun a => Fin.ext ?_)
    exact Window.rect_emb_val_of_index_zero (cfg2.win 2) t2_0 a (by revert a; decide +kernel) _

theorem body_obligation2 (V : Vals F) (O : CellTallies nD τ sig (HIx 1)) (B : Set (SemLoc sig × HIx 1)) (d : Dev nD) :
    BodyObligation (dat2 V O B d) (defs₀ (F := F)) 𝒱₀ none Set.univ := fun t => by
  obtain rfl := fin_N2 t
  obtain ⟨h0, h1, h2⟩ := before2 V O B d
  rw [bigSep_W2, bigSep_W2]
  simp only [owns_whole_eq]
  rw [show (dat2 V O B d).owesAt none t2_0.succ = (dat2 V O B d).owesAt none t2_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [h0] at hf0
  rw [h1] at hf1
  rw [h2] at hf2
  subst hf0 hf1 hf2
  iapply (comb_run d _ _ _ f3 _)
  isplitl [H0]; · iexact H0
  isplitl [H1]; · iexact H1
  isplitl [H2]; · iexact H2
  isplitl [H3]; · iexact H3
  iintro ⟨H0, H1, H2, H3⟩
  isplitl [HΦ]; · iapply (Entails.of_eq (show (dat2 V O B d).Φ t2_0.castSucc = (dat2 V O B d).Φ t2_0.succ from rfl)); iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

theorem final2 (V : Vals F) (O : CellTallies nD τ sig (HIx 1)) (B : Set (SemLoc sig × HIx 1)) (d : Dev nD) :
    (dat2 V O B d).arrAt 3 cfg2.N = out2 V d := by
  refine (dat2 V O B d).arrAt_eq_of_after_last 3 t2_0 (by decide +kernel) _ fun j => ?_
  rfl

/-- The proof data of every pipeline, this call's at its own. -/
def pdats2 (V : Vals F) (O : CellTallies nD τ sig (HIx 1)) (B : Set (SemLoc sig × HIx 1)) :
    (p : Fin 2) → (d : Dev nD) → Dat τ (Elt F) (HIx 1) ℕ UU ℕ (Pipeline.pin (pcfgs (F := F)) adm p) d
  | ⟨0, _⟩ => fun d => junkDat d
  | ⟨1, _⟩ => fun d => dat2 V O B d

set_option backward.isDefEq.respectTransparency.types false in
/-- The call as a step between states of the TensorCore's unscoped buffers: from `V` to any `V'` that differs from `V`
    only in the result, which it has at the call's value. -/
def reg2 (V V' : Vals F) (O : CellTallies nD τ sig (HIx 1)) (hO : ∀ g, O g none = 0) (B : Set (SemLoc sig × HIx 1))
    (hB : ∀ s, (s, (none : HIx 1)) ∈ B)
    (hout : ∀ d, V' d main_v7 = out2 V d) (hne : ∀ d (b : Ref sig .tc), b ≠ main_v7 → V' d b = V d b) :
    Pipeline.RegionSeg (pcfgs (F := F)) adm (pdats2 V O B) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody d := (body_obligation2 V O B d).loose
  hwaits d := Pipeline.cellsWaits_intro _ _ _ _ d fun w s t => (K (F := F)).mayWait_none _ hO
  pre d := iprop(unscopedBufs d (V d) ∗ ∃ W, ⌜∀ p ∈ W, p ∈ B⌝ ∗ owes (d.tc : Thread nD τ) O W)
  post d := iprop(unscopedBufs d (V' d) ∗ ∃ W, ⌜∀ p ∈ W, p ∈ B⌝ ∗ owes (d.tc : Thread nD τ) O W)
  X _ := BI.emp
  Y _ := BI.emp
  Z d := Pipeline.unscopedRest (Ix := HIx 1) (Name := ℕ) (U := UU) (Lvl := ℕ) spec2 d (V d)
  hentry d := by
    rw [Pipeline.ownSems0_none]
    have hsplit := Pipeline.arrays_of_unscopedBufs (p := 1) (pcfgs (F := F)) adm (pdats2 V O B) launch2.win launch2.arr_whole d
      ((pdats2 V O B 1 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats2 V O B 1 d).Φ 0 = Pipeline.scopedRest (Ix := HIx 1) (Name := ℕ) (U := UU) (Lvl := ℕ) (Val := Elt F) spec2 d from rfl]
    iintro ⟨-, -, Hr⟩; iexact Hr
  hout d := by
    rw [Pipeline.ownSems0_none, show (pdats2 V O B 1 d).Φ (Fin.last _) = Pipeline.scopedRest (Ix := HIx 1) (Name := ℕ) (U := UU) (Lvl := ℕ) (Val := Elt F) spec2 d from rfl]
    iintro Hr
    isplitr; · iempintro
    isplitr; · iempintro
    iexact Hr
  hexit d := by
    have hjoin := Pipeline.unscopedBufs_of_arrays (p := 1) (pcfgs (F := F)) adm (Ix := HIx 1) (Name := ℕ) (U := UU) (Lvl := ℕ) launch2.win launch2.arr_whole d
      (pdats2 V O B) ((pdats2 V O B 1 d).share_full fun _ => rfl) (V d) (V' d) ((pdats2 V O B 1 d).arrAt · cfg2.N)
      (fun w => by
        fin_cases w
        · exact ((pdats2 V O B 1 d).arrAt_in 0 rfl _).trans (hne d main_v1 (by decide)).symm
        · exact ((pdats2 V O B 1 d).arrAt_in 1 rfl _).trans (hne d main_v6 (by decide)).symm
        · exact ((pdats2 V O B 1 d).arrAt_in 2 rfl _).trans (hne d main_v0 (by decide)).symm
        · exact (final2 V O B d).trans (hout d).symm)
      (fun b hb => hne d b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact hB _
    iexact HO

end Cert.Proof.Hist

end
-- ==== Proof.Windows.lean ====
/-
  The windows of one vector subcore: which elements of the tables it holds, and what they hold once copied.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base
public import proofs.«01_k».proof.Proof.Spec

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The number of the subcore at grid point `L`: two per subcore index, one of each SparseCore. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

theorem off1_val (L : grid1.Coords) (c : Fin 32) : k1_off1 L (BitVec.ofNat 32 (16384 * c.val)) 0 = 16384 * c.val + 512 * wid L := by
  have h0 : (L 0).val < 2 := (L 0).isLt
  have h1 : (L 1).val < 16 := (L 1).isLt
  have hc := c.isLt
  show (BitVec.ofNat 32 (16384 * c.val) + (BitVec.ofNat 32 (L 1).val * 2#32 + BitVec.ofNat 32 (L 0).val) * 512#32).toNat = _
  simp only [BitVec.toNat_add, BitVec.toNat_mul, BitVec.toNat_ofNat, wid]
  omega

theorem off3_val (L : grid1.Coords) : k1_off3 L 0 = wid L := by
  have h0 : (L 0).val < 2 := (L 0).isLt
  have h1 : (L 1).val < 16 := (L 1).isLt
  show (BitVec.ofNat 32 (L 1).val * 2#32 + BitVec.ofNat 32 (L 0).val).toNat = _
  simp only [BitVec.toNat_add, BitVec.toNat_mul, BitVec.toNat_ofNat, wid]
  omega

/-- What subcore `w` reads of a class-major table, and the row of the parts it writes. -/
def slab (w : ℕ) : Finset S524288.Idx := Finset.univ.filter fun i => (i 0).val % 16384 / 512 = w
def orow (w : ℕ) : Finset S32x96.Idx := Finset.univ.filter fun i => (i 0).val = w

theorem mem_src (L : grid1.Coords) (c : Fin 32) (i : S524288.Idx) :
    i ∈ (srcRect L c).set ↔ 16384 * c.val + 512 * wid L ≤ (i 0).val ∧ (i 0).val < 16384 * c.val + 512 * wid L + 512 := by
  rw [Rect.mem_set_unit, ← off1_val]
  exact ⟨fun h => h 0, fun h a => by obtain rfl : a = (0 : Fin 1) := Subsingleton.elim (α := Fin 1) _ _; exact h⟩

theorem mem_dst (c : Fin 32) (i : S16384.Idx) : i ∈ (dstRect c).set ↔ 512 * c.val ≤ (i 0).val ∧ (i 0).val < 512 * c.val + 512 := by
  rw [Rect.mem_set_unit]
  exact ⟨fun h => h 0, fun h a => by obtain rfl : a = (0 : Fin 1) := Subsingleton.elim (α := Fin 1) _ _; exact h⟩

theorem srcRect_disjoint (L : grid1.Coords) : ∀ c ∈ (Finset.univ : Finset (Fin 32)), ∀ c' ∈ (Finset.univ : Finset (Fin 32)), c ≠ c' →
    Disjoint (srcRect L c).set (srcRect L c').set := by
  intro c _ c' _ hne
  rw [Finset.disjoint_left]
  intro i h h'
  rw [mem_src] at h h'
  have := wid_lt L
  exact hne (Fin.ext (by omega))

theorem slab_eq (L : grid1.Coords) : (Finset.univ.biUnion fun c : Fin 32 => (srcRect L c).set) = slab (wid L) := by
  ext i
  have hi : (i 0).val < 524288 := (i 0).isLt
  have := wid_lt L
  simp only [Finset.mem_biUnion, Finset.mem_univ, true_and, mem_src, slab, Finset.mem_filter]
  constructor
  · rintro ⟨c, h1, h2⟩; omega
  · intro h; refine ⟨⟨(i 0).val / 16384, by omega⟩, ?_⟩
    show 16384 * ((i 0).val / 16384) + 512 * wid L ≤ (i 0).val ∧ (i 0).val < 16384 * ((i 0).val / 16384) + 512 * wid L + 512
    omega

theorem dstRect_disjoint : ∀ c ∈ (Finset.univ : Finset (Fin 32)), ∀ c' ∈ (Finset.univ : Finset (Fin 32)), c ≠ c' →
    Disjoint (dstRect c).set (dstRect c').set := by
  intro c _ c' _ hne
  rw [Finset.disjoint_left]
  intro i h h'
  rw [mem_dst] at h h'
  exact hne (Fin.ext (by omega))

theorem dst_cover : (Finset.univ.biUnion fun c : Fin 32 => (dstRect c).set) = Finset.univ := by
  ext i
  have hi : (i 0).val < 16384 := (i 0).isLt
  simp only [Finset.mem_biUnion, Finset.mem_univ, true_and, mem_dst, iff_true]
  refine ⟨⟨(i 0).val / 512, by omega⟩, ?_⟩
  show 512 * ((i 0).val / 512) ≤ (i 0).val ∧ (i 0).val < 512 * ((i 0).val / 512) + 512
  omega

variable [FloatOps F]
variable (d : Dev nD) (L : grid1.Coords)

theorem oW_set : (oW L).view.set = orow (wid L) := by
  refine (View.set_reshape _ _).trans ((View.set_slice_whole _ _).trans ?_)
  ext i
  have h1 : (i 1).val < 96 := (i 1).isLt
  rw [Rect.mem_set_unit, orow, Finset.mem_filter, ← off3_val]
  constructor
  · intro h
    have h0 := h 0
    exact ⟨Finset.mem_univ _, by have := h0.1; have h2 : (i 0).val < k1_off3 L 0 + 1 := h0.2; omega⟩
  · rintro ⟨-, h⟩ a
    match a with
    | 0 => exact ⟨h.ge, by show (i 0).val < k1_off3 L 0 + 1; omega⟩
    | 1 => exact ⟨Nat.zero_le _, by show (i 1).val < 0 + 96; omega⟩

/-- The row written out is the row of the parts. -/
theorem row_out (f : Buf (Elt F) (((Memref.whole main_v6_scv : Memref sig .scVector .hbm S32x96 .f32)).view.loc (thr d L))) (r : FVec F S96 .f32) (fx fg : FVec F S524288 .f32) (hr : r = rowOf fx fg (wid L)) :
    own d L (oW L) ((oW L).view.writes (Elt F) f [⟨Rect.whole S96, r⟩])
      = (((Memref.whole main_v6_scv : Memref sig .scVector .hbm S32x96 .f32)).view.loc (thr d L) ↦[orow (wid L)]{fullShare} (parts fx fg : FVec F S32x96 .f32) : sProp 𝕄) := by
  subst hr
  rw [own, ← oW_set]
  refine pointsTo_congr fun i hi => ?_
  have hi' := oW_set L ▸ hi
  obtain ⟨y, -, rfl⟩ := Finset.mem_map.mp hi
  have h := congrFun (View.read_writes_whole (v := (oW L).view) (Val := Elt F) (f := f) (rowOf fx fg (wid L))) y
  refine (show _ = _ from h).trans ?_
  have hw : (((oW L).view.emb y) 0).val = wid L := by
    have := (Finset.mem_filter.mp hi').2
    exact this
  show _ = rowOf fx fg _ (Shape.ofLane _)
  rw [hw]
  refine congrArg (rowOf fx fg (wid L)) (funext fun a => ?_)
  obtain rfl : a = (0 : Fin 1) := Subsingleton.elim (α := Fin 1) _ _
  refine Eq.symm (Fin.ext ?_)
  have he := Shape.reshapeEquiv_cons_one (n := 1) (d := ![96]) (squeezes_S1x96_S96).numel_eq y
  show 0 + 1 * ((Shape.reshapeEquiv (squeezes_S1x96_S96).numel_eq y : S1x96.Idx) 1).val = (y 0).val
  refine (congrArg (fun z : S1x96.Idx => 0 + 1 * (z 1).val) he).trans ?_
  show 0 + 1 * (y 0).val = (y 0).val
  omega

/-- The subcore's slab of the table, class by class. -/
theorem splitX (f : Buf (Elt F) (((Memref.whole main_v3_scv : Memref sig .scVector .hbm S524288 .f32)).view.loc (thr d L))) :
    (((Memref.whole main_v3_scv : Memref sig .scVector .hbm S524288 .f32)).view.loc (thr d L) ↦[slab (wid L)]{fullShare} f : sProp 𝕄) = bigSep Finset.univ fun c => own d L (xW L c) f := by
  rw [← slab_eq L, pointsTo_biUnion _ _ (srcRect_disjoint L)]
  refine bigSep_congr fun c _ => ?_
  rw [own, show (xW L c).view.set = (srcRect L c).set from View.set_slice_whole _ _]

/-- The scratch, class by class. -/
theorem blocksX (f : Buf (Elt F) (((Memref.whole cc1_scratch0 : Memref sig .scVector .vmem S16384 .f32)).view.loc (thr d L))) :
    (((Memref.whole cc1_scratch0 : Memref sig .scVector .vmem S16384 .f32)).view.loc (thr d L) ↦{fullShare} f : sProp 𝕄) = bigSep Finset.univ fun c => own d L (xB c) f := by
  rw [show (((Memref.whole cc1_scratch0 : Memref sig .scVector .vmem S16384 .f32)).view.loc (thr d L) ↦{fullShare} f : sProp 𝕄)
    = (((Memref.whole cc1_scratch0 : Memref sig .scVector .vmem S16384 .f32)).view.loc (thr d L) ↦[Finset.univ.biUnion fun c : Fin 32 => (dstRect c).set]{fullShare} f) from by rw [dst_cover],
    pointsTo_biUnion _ _ dstRect_disjoint]
  refine bigSep_congr fun c _ => ?_
  rw [own, show (xB c).view.set = (dstRect c).set from View.set_slice_whole _ _]

/-- The thirty-two blocks landed: the scratch holds the subcore's rows, class by class. -/
theorem landedX (f : Buf (Elt F) (((Memref.whole main_v3_scv : Memref sig .scVector .hbm S524288 .f32)).view.loc (thr d L))) (fd : ∀ c : Fin 32, Buf (Elt F) (((Memref.whole cc1_scratch0 : Memref sig .scVector .vmem S16384 .f32)).view.loc (thr d L))) :
    (bigSep Finset.univ fun c => own d L (xB c) ((xB c).view.writes (Elt F) (fd c) [⟨Rect.whole S512, ReadAs.same.apply ((xW L c).view.read (Elt F) f)⟩]))
      = (((Memref.whole cc1_scratch0 : Memref sig .scVector .vmem S16384 .f32)).view.loc (thr d L) ↦{fullShare} (stage (F := F) f (wid L) : FVec F S16384 .f32) : sProp 𝕄) := by
  rw [blocksX]
  refine bigSep_congr fun c _ => ?_
  rw [own, own]
  refine pointsTo_congr fun i hi => ?_
  obtain ⟨y, -, rfl⟩ := Finset.mem_map.mp hi
  have h := congrFun (View.read_writes_whole (v := (xB c).view) (Val := Elt F) (f := fd c) (ReadAs.same.apply ((xW L c).view.read (Elt F) f))) y
  refine (show _ = _ from h).trans ?_
  show f _ = f _
  refine congrArg f (funext fun a => ?_)
  obtain rfl : a = (0 : Fin 1) := Subsingleton.elim (α := Fin 1) _ _
  have hy : (y 0).val < 512 := (y 0).isLt
  have hc := c.isLt
  have hw := wid_lt L
  refine Fin.ext ?_
  show k1_off1 L (BitVec.ofNat 32 (16384 * c.val)) 0 + 1 * (y 0).val
    = (16384 * ((512 * c.val + 1 * (y 0).val) / 512) + (512 * wid L + (512 * c.val + 1 * (y 0).val) % 512)) % 524288
  rw [off1_val]
  omega

/-- The subcore's slab of the table, class by class. -/
theorem splitG (f : Buf (Elt F) (((Memref.whole main_v5_scv : Memref sig .scVector .hbm S524288 .f32)).view.loc (thr d L))) :
    (((Memref.whole main_v5_scv : Memref sig .scVector .hbm S524288 .f32)).view.loc (thr d L) ↦[slab (wid L)]{fullShare} f : sProp 𝕄) = bigSep Finset.univ fun c => own d L (gW L c) f := by
  rw [← slab_eq L, pointsTo_biUnion _ _ (srcRect_disjoint L)]
  refine bigSep_congr fun c _ => ?_
  rw [own, show (gW L c).view.set = (srcRect L c).set from View.set_slice_whole _ _]

/-- The scratch, class by class. -/
theorem blocksG (f : Buf (Elt F) (((Memref.whole cc1_scratch1 : Memref sig .scVector .vmem S16384 .f32)).view.loc (thr d L))) :
    (((Memref.whole cc1_scratch1 : Memref sig .scVector .vmem S16384 .f32)).view.loc (thr d L) ↦{fullShare} f : sProp 𝕄) = bigSep Finset.univ fun c => own d L (gB c) f := by
  rw [show (((Memref.whole cc1_scratch1 : Memref sig .scVector .vmem S16384 .f32)).view.loc (thr d L) ↦{fullShare} f : sProp 𝕄)
    = (((Memref.whole cc1_scratch1 : Memref sig .scVector .vmem S16384 .f32)).view.loc (thr d L) ↦[Finset.univ.biUnion fun c : Fin 32 => (dstRect c).set]{fullShare} f) from by rw [dst_cover],
    pointsTo_biUnion _ _ dstRect_disjoint]
  refine bigSep_congr fun c _ => ?_
  rw [own, show (gB c).view.set = (dstRect c).set from View.set_slice_whole _ _]

/-- The thirty-two blocks landed: the scratch holds the subcore's rows, class by class. -/
theorem landedG (f : Buf (Elt F) (((Memref.whole main_v5_scv : Memref sig .scVector .hbm S524288 .f32)).view.loc (thr d L))) (fd : ∀ c : Fin 32, Buf (Elt F) (((Memref.whole cc1_scratch1 : Memref sig .scVector .vmem S16384 .f32)).view.loc (thr d L))) :
    (bigSep Finset.univ fun c => own d L (gB c) ((gB c).view.writes (Elt F) (fd c) [⟨Rect.whole S512, ReadAs.same.apply ((gW L c).view.read (Elt F) f)⟩]))
      = (((Memref.whole cc1_scratch1 : Memref sig .scVector .vmem S16384 .f32)).view.loc (thr d L) ↦{fullShare} (stage (F := F) f (wid L) : FVec F S16384 .f32) : sProp 𝕄) := by
  rw [blocksG]
  refine bigSep_congr fun c _ => ?_
  rw [own, own]
  refine pointsTo_congr fun i hi => ?_
  obtain ⟨y, -, rfl⟩ := Finset.mem_map.mp hi
  have h := congrFun (View.read_writes_whole (v := (gB c).view) (Val := Elt F) (f := fd c) (ReadAs.same.apply ((gW L c).view.read (Elt F) f))) y
  refine (show _ = _ from h).trans ?_
  show f _ = f _
  refine congrArg f (funext fun a => ?_)
  obtain rfl : a = (0 : Fin 1) := Subsingleton.elim (α := Fin 1) _ _
  have hy : (y 0).val < 512 := (y 0).isLt
  have hc := c.isLt
  have hw := wid_lt L
  refine Fin.ext ?_
  show k1_off1 L (BitVec.ofNat 32 (16384 * c.val)) 0 + 1 * (y 0).val
    = (16384 * ((512 * c.val + 1 * (y 0).val) / 512) + (512 * wid L + (512 * c.val + 1 * (y 0).val) % 512)) % 524288
  rw [off1_val]
  omega

end Cert.Proof.Hist

end
-- ==== Proof.Loop.lean ====
/-
  One group of sixteen rows of the histogram call: the run of the loop's body, with the bins it leaves.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base
public import proofs.«01_k».proof.Proof.Spec

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (d : Dev nD) (L : grid1.Coords)

omit [FloatOps F] in
theorem off2_val (t : Fin k1_t1_loop.trips) (k : Fin 32) : k1_off2 t (BitVec.ofNat 32 (512 * k.val)) 0 = 512 * k.val + 16 * t.val := by
  have ht : t.val < 32 := t.isLt
  have hk := k.isLt
  show (BitVec.ofNat 32 (512 * k.val) + (0#32 + BitVec.ofNat 32 t.val * 1#32) * 16#32).toNat = _
  simp only [BitVec.toNat_add, BitVec.toNat_mul, BitVec.toNat_ofNat]
  omega

omit [FloatOps F] in
/-- What a load of class `k` at group `t` reads out of the first block; -/
theorem readX (t : Fin k1_t1_loop.trips) (k : Fin 32) (X : Buf (Elt F) (((Memref.whole cc1_scratch0 : Memref sig .scVector .vmem S16384 .f32)).view.loc (thr d L))) :
    View.readAt (Elt F) ((Memref.whole cc1_scratch0 : Memref sig .scVector .vmem S16384 .f32)).view (Rect.unit (s := S16384) (k1_off2 t (BitVec.ofNat 32 (512 * k.val))) S16.size (k1_off2_inb t k)).toLoadRect X
      = blk (F := F) X t.val k := by
  have ht : t.val < 32 := t.isLt
  have hk := k.isLt
  funext l
  refine congrArg X (funext fun a => ?_)
  obtain rfl : a = (0 : Fin 1) := Subsingleton.elim (α := Fin 1) _ _
  have hl : (l 0).val < 16 := (l 0).isLt
  refine Fin.ext ?_
  show k1_off2 t (BitVec.ofNat 32 (512 * k.val)) 0 + 1 * (l 0).val = (512 * k.val + 16 * t.val + (l 0).val) % 16384
  rw [off2_val]; omega

omit [FloatOps F] in
/-- and out of the second. -/
theorem readG (t : Fin k1_t1_loop.trips) (k : Fin 32) (G : Buf (Elt F) (((Memref.whole cc1_scratch1 : Memref sig .scVector .vmem S16384 .f32)).view.loc (thr d L))) :
    View.readAt (Elt F) ((Memref.whole cc1_scratch1 : Memref sig .scVector .vmem S16384 .f32)).view (Rect.unit (s := S16384) (k1_off2 t (BitVec.ofNat 32 (512 * k.val))) S16.size (k1_off2_inb t k)).toLoadRect G
      = blk (F := F) G t.val k :=
  readX d L t k G

/-- The thirty-two loads of one group, out of the first block; -/
def rdX (t : Fin k1_t1_loop.trips) (X : Buf (Elt F) (((Memref.whole cc1_scratch0 : Memref sig .scVector .vmem S16384 .f32)).view.loc (thr d L))) : Fin 32 → FVec F S16 .f32 := fun k =>
  View.readAt (Elt F) ((Memref.whole cc1_scratch0 : Memref sig .scVector .vmem S16384 .f32)).view (Rect.unit (s := S16384) (k1_off2 t (BitVec.ofNat 32 (512 * k.val))) S16.size (k1_off2_inb t k)).toLoadRect X
/-- and out of the second. -/
def rdG (t : Fin k1_t1_loop.trips) (G : Buf (Elt F) (((Memref.whole cc1_scratch1 : Memref sig .scVector .vmem S16384 .f32)).view.loc (thr d L))) : Fin 32 → FVec F S16 .f32 := fun k =>
  View.readAt (Elt F) ((Memref.whole cc1_scratch1 : Memref sig .scVector .vmem S16384 .f32)).view (Rect.unit (s := S16384) (k1_off2 t (BitVec.ofNat 32 (512 * k.val))) S16.size (k1_off2_inb t k)).toLoadRect G
omit [FloatOps F] in
theorem rdX_eq (t : Fin k1_t1_loop.trips) (X : Buf (Elt F) (((Memref.whole cc1_scratch0 : Memref sig .scVector .vmem S16384 .f32)).view.loc (thr d L))) : rdX d L t X = blk (F := F) X t.val :=
  funext fun k => readX d L t k X
omit [FloatOps F] in
theorem rdG_eq (t : Fin k1_t1_loop.trips) (G : Buf (Elt F) (((Memref.whole cc1_scratch1 : Memref sig .scVector .vmem S16384 .f32)).view.loc (thr d L))) : rdG d L t G = blk (F := F) G t.val :=
  funext fun k => readG d L t k G

omit [FloatOps F] in
theorem pts_bS (f : Buf (Elt F) (((Memref.whole cc1_scratch2 : Memref sig .scVector .vmem S1536 .f32)).view.loc (thr d L))) :
    (((((Memref.whole cc1_scratch2 : Memref sig .scVector .vmem S1536 .f32)).access (.whole S1536)).loc (thr d L)) ↦[(((Memref.whole cc1_scratch2 : Memref sig .scVector .vmem S1536 .f32)).access (.whole S1536)).set]{fullShare} f : sProp 𝕄)
      = (((Memref.whole cc1_scratch2 : Memref sig .scVector .vmem S1536 .f32)).view.loc (thr d L) ↦{fullShare} f) := by
  rw [show (((Memref.whole cc1_scratch2 : Memref sig .scVector .vmem S1536 .f32)).access (.whole S1536)).set = Finset.univ from Memref.set_access_whole (cc1_scratch2 : Ref sig .scVector)]

omit [FloatOps F] in
theorem pts_bS_w (f w : Buf (Elt F) (((Memref.whole cc1_scratch2 : Memref sig .scVector .vmem S1536 .f32)).view.loc (thr d L))) :
    (((((Memref.whole cc1_scratch2 : Memref sig .scVector .vmem S1536 .f32)).access (.whole S1536)).loc (thr d L)) ↦[(((Memref.whole cc1_scratch2 : Memref sig .scVector .vmem S1536 .f32)).access (.whole S1536)).set]{fullShare}
        ((((Memref.whole cc1_scratch2 : Memref sig .scVector .vmem S1536 .f32)).access (.whole S1536)).write (Elt F) f w Finset.univ) : sProp 𝕄)
      = (((Memref.whole cc1_scratch2 : Memref sig .scVector .vmem S1536 .f32)).view.loc (thr d L) ↦{fullShare} w) := by
  rw [show (((Memref.whole cc1_scratch2 : Memref sig .scVector .vmem S1536 .f32)).access (.whole S1536)).write (Elt F) f w Finset.univ = w from
    Memref.write_access_whole_univ (Elt F) (cc1_scratch2 : Ref sig .scVector) f w]
  exact pts_bS d L w

/-- Equal contents, index vectors and masks store alike. -/
theorem storeIdx_congr {B B' : FVec F S1536 .f32} (eB : B = B') {i j : IVec S16 32} (e : i = j) {m m' : IVec S16 1} (em : m = m')
    (hi : ∀ (a : Fin S1536.rank) x, ((![i] : Fin 1 → IVec S16 32) a x).toNat < S1536.size a)
    (hj : ∀ (a : Fin S1536.rank) x, ((![j] : Fin 1 → IVec S16 32) a x).toNat < S1536.size a) :
    storeIdx (e := .f32) B ![i] (k1_pay73 (F := F)) m true hi = storeIdx (e := .f32) B' ![j] k1_pay73 m' true hj := by
  subst eB; subst e; subst em; rfl

set_option maxHeartbeats 20000000 in
/-- One group of sixteen rows: the two blocks are read, and the bins take its step. -/
theorem loop_body (t : Fin k1_t1_loop.trips)
    (X : Buf (Elt F) (((Memref.whole cc1_scratch0 : Memref sig .scVector .vmem S16384 .f32)).view.loc (thr d L))) (G : Buf (Elt F) (((Memref.whole cc1_scratch1 : Memref sig .scVector .vmem S16384 .f32)).view.loc (thr d L)))
    (B : Buf (Elt F) (((Memref.whole cc1_scratch2 : Memref sig .scVector .vmem S1536 .f32)).view.loc (thr d L))) :
    (iprop((((Memref.whole cc1_scratch0 : Memref sig .scVector .vmem S16384 .f32)).view.loc (thr d L) ↦{fullShare} X) ∗ (((Memref.whole cc1_scratch1 : Memref sig .scVector .vmem S16384 .f32)).view.loc (thr d L) ↦{fullShare} G)
        ∗ (((Memref.whole cc1_scratch2 : Memref sig .scVector .vmem S1536 .f32)).view.loc (thr d L) ↦{fullShare} B)) : sProp 𝕄)
      ⊢ wp frame (wpE (defs₀ (F := F)) 𝒱₀ (thr d L) none) Set.univ
          (k1_t1_body (F := F) L (Memref.whole main_v3_scv : Memref sig .scVector .hbm S524288 .f32) (Memref.isWhole_whole _) (Memref.whole main_v5_scv : Memref sig .scVector .hbm S524288 .f32) (Memref.isWhole_whole _) (Memref.whole main_v6_scv : Memref sig .scVector .hbm S32x96 .f32) (Memref.isWhole_whole _)
            (Memref.whole cc1_scratch0 : Memref sig .scVector .vmem S16384 .f32) (Memref.isWhole_whole _) (Memref.whole cc1_scratch1 : Memref sig .scVector .vmem S16384 .f32) (Memref.isWhole_whole _) (Memref.whole cc1_scratch2 : Memref sig .scVector .vmem S1536 .f32) (Memref.isWhole_whole _) (Memref.whole cc1_scratch3 : Memref sig .scVector .vmem S96 .f32) (Memref.isWhole_whole _)
            cc1_scratch4 cc1_scratch5 cc1_scoped0 t ())
          fun _ => iprop((((Memref.whole cc1_scratch0 : Memref sig .scVector .vmem S16384 .f32)).view.loc (thr d L) ↦{fullShare} X) ∗ (((Memref.whole cc1_scratch1 : Memref sig .scVector .vmem S16384 .f32)).view.loc (thr d L) ↦{fullShare} G)
            ∗ (((Memref.whole cc1_scratch2 : Memref sig .scVector .vmem S1536 .f32)).view.loc (thr d L) ↦{fullShare} (step (F := F) (blk (F := F) X t.val) (blk (F := F) G t.val) B : FVec F S1536 .f32))) := by
  unfold k1_t1_body
  iintro ⟨HX, HG, HB⟩
  sl_exec_parts
  have eg : k1_pay80 (loop_body.sl.r_58 d L t G) (loop_body.sl.r_59 d L t G) (loop_body.sl.r_60 d L t G) (loop_body.sl.r_61 d L t G) (loop_body.sl.r_62 d L t G) (loop_body.sl.r_63 d L t G) (loop_body.sl.r_64 d L t G) (loop_body.sl.r_65 d L t G) (loop_body.sl.r_66 d L t G) (loop_body.sl.r_67 d L t G) = argTree (blk (F := F) G t.val) := by
    rw [← rdG_eq (F := F) d L t G]
    unfold argTree chain tree3 tree2 tree1 node leaf
    dsimp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay74, k1_pay75, k1_pay76, k1_pay77, k1_pay78, k1_pay79, k1_pay80, loop_body.sl.r, loop_body.sl.r_1, loop_body.sl.r_2, loop_body.sl.r_3, loop_body.sl.r_4, loop_body.sl.r_5, loop_body.sl.r_6, loop_body.sl.r_7, loop_body.sl.r_8, loop_body.sl.r_9, loop_body.sl.r_10, loop_body.sl.r_11, loop_body.sl.r_12, loop_body.sl.r_13, loop_body.sl.r_14, loop_body.sl.r_15, loop_body.sl.r_16, loop_body.sl.r_17, loop_body.sl.r_18, loop_body.sl.r_19, loop_body.sl.r_20, loop_body.sl.r_21, loop_body.sl.r_22, loop_body.sl.r_23, loop_body.sl.r_24, loop_body.sl.r_25, loop_body.sl.r_26, loop_body.sl.r_27, loop_body.sl.r_28, loop_body.sl.r_29, loop_body.sl.r_30, loop_body.sl.r_31, loop_body.sl.r_32, loop_body.sl.r_33, loop_body.sl.r_34, loop_body.sl.r_35, loop_body.sl.r_36, loop_body.sl.r_37, loop_body.sl.r_38, loop_body.sl.r_39, loop_body.sl.r_40, loop_body.sl.r_41, loop_body.sl.r_42, loop_body.sl.r_43, loop_body.sl.r_44, loop_body.sl.r_45, loop_body.sl.r_46, loop_body.sl.r_47, loop_body.sl.r_48, loop_body.sl.r_49, loop_body.sl.r_50, loop_body.sl.r_51, loop_body.sl.r_52, loop_body.sl.r_53, loop_body.sl.r_54, loop_body.sl.r_55, loop_body.sl.r_56, loop_body.sl.r_57, loop_body.sl.r_58, loop_body.sl.r_59, loop_body.sl.r_60, loop_body.sl.r_61, loop_body.sl.r_62, loop_body.sl.r_63, loop_body.sl.r_64, loop_body.sl.r_65, loop_body.sl.r_66, loop_body.sl.r_67]
    rfl
  have ex : loop_body.sl.r_36 d L t X = argTree (blk (F := F) X t.val) := by
    rw [← rdX_eq (F := F) d L t X]
    unfold argTree chain tree3 tree2 tree1 node leaf
    dsimp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay74, k1_pay75, k1_pay76, k1_pay77, k1_pay78, k1_pay79, k1_pay80, loop_body.sl.r, loop_body.sl.r_1, loop_body.sl.r_2, loop_body.sl.r_3, loop_body.sl.r_4, loop_body.sl.r_5, loop_body.sl.r_6, loop_body.sl.r_7, loop_body.sl.r_8, loop_body.sl.r_9, loop_body.sl.r_10, loop_body.sl.r_11, loop_body.sl.r_12, loop_body.sl.r_13, loop_body.sl.r_14, loop_body.sl.r_15, loop_body.sl.r_16, loop_body.sl.r_17, loop_body.sl.r_18, loop_body.sl.r_19, loop_body.sl.r_20, loop_body.sl.r_21, loop_body.sl.r_22, loop_body.sl.r_23, loop_body.sl.r_24, loop_body.sl.r_25, loop_body.sl.r_26, loop_body.sl.r_27, loop_body.sl.r_28, loop_body.sl.r_29, loop_body.sl.r_30, loop_body.sl.r_31, loop_body.sl.r_32, loop_body.sl.r_33, loop_body.sl.r_34, loop_body.sl.r_35, loop_body.sl.r_36, loop_body.sl.r_37, loop_body.sl.r_38, loop_body.sl.r_39, loop_body.sl.r_40, loop_body.sl.r_41, loop_body.sl.r_42, loop_body.sl.r_43, loop_body.sl.r_44, loop_body.sl.r_45, loop_body.sl.r_46, loop_body.sl.r_47, loop_body.sl.r_48, loop_body.sl.r_49, loop_body.sl.r_50, loop_body.sl.r_51, loop_body.sl.r_52, loop_body.sl.r_53, loop_body.sl.r_54, loop_body.sl.r_55, loop_body.sl.r_56, loop_body.sl.r_57, loop_body.sl.r_58, loop_body.sl.r_59, loop_body.sl.r_60, loop_body.sl.r_61, loop_body.sl.r_62, loop_body.sl.r_63, loop_body.sl.r_64, loop_body.sl.r_65, loop_body.sl.r_66, loop_body.sl.r_67]
    rfl
  have eA : loop_body.sl.v1328 d L t G = ixA (argTree (blk (F := F) G t.val)) := congrArg (fun v => addi v k1_pay72) eg
  have eB : k1_pay81 (loop_body.sl.r_36 d L t X) = ixB (argTree (blk (F := F) X t.val)) := congrArg k1_pay81 ex
  have eC : k1_pay82 (loop_body.sl.r_58 d L t G) (loop_body.sl.r_59 d L t G) (loop_body.sl.r_60 d L t G) (loop_body.sl.r_61 d L t G) (loop_body.sl.r_62 d L t G) (loop_body.sl.r_63 d L t G) (loop_body.sl.r_64 d L t G) (loop_body.sl.r_65 d L t G) (loop_body.sl.r_66 d L t G) (loop_body.sl.r_67 d L t G) = ixC (argTree (blk (F := F) G t.val)) :=
    congrArg (fun v => addi (addi v k1_pay72) (broadcast S16 1024#32)) eg
  have eM : k1_pay83 (loop_body.sl.r_36 d L t X) (loop_body.sl.r_58 d L t G) (loop_body.sl.r_59 d L t G) (loop_body.sl.r_60 d L t G) (loop_body.sl.r_61 d L t G) (loop_body.sl.r_62 d L t G) (loop_body.sl.r_63 d L t G) (loop_body.sl.r_64 d L t G) (loop_body.sl.r_65 d L t G) (loop_body.sl.r_66 d L t G) (loop_body.sl.r_67 d L t G)
      = cmpi .eq (argTree (blk (F := F) G t.val)) (argTree (blk (F := F) X t.val)) :=
    congrArg₂ (cmpi .eq) eg ex
  rw [wp_assume_of _ _ _ _ (eA ▸ chkA _)]
  ihave HB := (Entails.of_eq (pts_bS (F := F) d L _).symm) $$ HB
  iapply (SparseCore.wp_vectorStoreIdx 𝒱₀ (thr d L) none Set.univ (base := ((Memref.whole cc1_scratch2 : Memref sig .scVector .vmem S1536 .f32)))) $$ HB; iintro HB
  ihave HB := (Entails.of_eq ((pts_bS_w (F := F) d L _ _).trans (pts_bS (F := F) d L _).symm)) $$ HB
  erw [wp_assume_of _ _ _ _ (eB ▸ chkB _)]
  iapply (SparseCore.wp_vectorStoreIdx 𝒱₀ (thr d L) none Set.univ (base := ((Memref.whole cc1_scratch2 : Memref sig .scVector .vmem S1536 .f32)))) $$ HB; iintro HB
  ihave HB := (Entails.of_eq ((pts_bS_w (F := F) d L _ _).trans (pts_bS (F := F) d L _).symm)) $$ HB
  erw [wp_assume_of _ _ _ _ (eC ▸ chkC _)]
  iapply (SparseCore.wp_vectorStoreIdx 𝒱₀ (thr d L) none Set.univ (base := ((Memref.whole cc1_scratch2 : Memref sig .scVector .vmem S1536 .f32)))) $$ HB; iintro HB
  ihave HB := (Entails.of_eq (pts_bS_w (F := F) d L _ _)) $$ HB
  have h1 := storeIdx_congr (B := View.read (Elt F) (((Memref.whole cc1_scratch2 : Memref sig .scVector .vmem S1536 .f32)).access (.whole S1536)) B) (B' := B) (Memref.read_access_whole (Elt F) (cc1_scratch2 : Ref sig .scVector) B) eA (m := fun _ => 1#1) rfl (eA ▸ k1_idx1_inb _ (chkA (blk (F := F) G t.val))) (k1_idx1_inb _ (chkA _))
  have h2 := storeIdx_congr (B := View.read (Elt F) (((Memref.whole cc1_scratch2 : Memref sig .scVector .vmem S1536 .f32)).access (.whole S1536)) _) ((Memref.read_access_whole (Elt F) (cc1_scratch2 : Ref sig .scVector) _).trans h1)
    eB (m := fun _ => 1#1) rfl (eB ▸ k1_idx2_inb _ (chkB (blk (F := F) X t.val))) (k1_idx2_inb _ (chkB _))
  have hs := storeIdx_congr (B := View.read (Elt F) (((Memref.whole cc1_scratch2 : Memref sig .scVector .vmem S1536 .f32)).access (.whole S1536)) _) ((Memref.read_access_whole (Elt F) (cc1_scratch2 : Ref sig .scVector) _).trans h2)
    eC eM (eC ▸ k1_idx3_inb _ (chkC (blk (F := F) G t.val))) (k1_idx3_inb _ (chkC _))
  ihave HB := (Entails.of_eq (congrArg (fun f : Buf (Elt F) (((Memref.whole cc1_scratch2 : Memref sig .scVector .vmem S1536 .f32)).view.loc (thr d L)) => (((Memref.whole cc1_scratch2 : Memref sig .scVector .vmem S1536 .f32)).view.loc (thr d L) ↦{fullShare} f : sProp 𝕄)) hs)) $$ HB
  sl_exec
  sl_step
  isplitl [HX]; · iexact HX
  isplitl [HG]; · iexact HG
  iexact HB

end Cert.Proof.Hist

end
-- ==== Proof.Tile.lean ====
/-
  The run of one vector subcore's kernel: 64 copies in, two batches awaited, the bins cleared, 32 groups counted, the bins
  of the sixteen lanes summed, and the row of 96 copied out.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base
public import proofs.«01_k».proof.Proof.Loop
public import proofs.«01_k».proof.Proof.Windows

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (d : Dev nD) (L : grid1.Coords)

/-- Sixteen adjacent bins from bin `o`, and the load that reads them. -/
def rdB (B : FVec F S1536 .f32) (o : ℕ) : FVec F S16 .f32 := fun x => B (at1536 (o + (x 0).val))

omit [FloatOps F] in
theorem readB (B : Buf (Elt F) (((Memref.whole cc1_scratch2 : Memref sig .scVector .vmem S1536 .f32)).view.loc (thr d L))) (o : ℕ) (inb : ∀ a, (![o] : Fin 1 → ℕ) a + S16.size a ≤ S1536.size a) :
    View.readAt (Elt F) ((Memref.whole cc1_scratch2 : Memref sig .scVector .vmem S1536 .f32)).view (Rect.unit (s := S1536) ![o] S16.size inb).toLoadRect B = rdB (F := F) B o := by
  have h0 : o + 16 ≤ 1536 := inb 0
  funext l
  refine congrArg B (funext fun a => ?_)
  obtain rfl : a = (0 : Fin 1) := Subsingleton.elim (α := Fin 1) _ _
  have hl : (l 0).val < 16 := (l 0).isLt
  refine Fin.ext ?_
  show o + 1 * (l 0).val = (o + (l 0).val) % 1536
  omega

/-- Sixteen lanes' bins added in order, written out. -/
def sum16 (B : FVec F S1536 .f32) (o : ℕ) : FVec F S16 .f32 :=
  addf (addf (addf (addf (addf (addf (addf (addf (addf (addf (addf (addf (addf (addf (addf (addf (broadcast S16 (Scalar.ofBits .f32 0x00000000#32)) (rdB B (o + 0))) (rdB B (o + 32))) (rdB B (o + 64))) (rdB B (o + 96))) (rdB B (o + 128))) (rdB B (o + 160))) (rdB B (o + 192))) (rdB B (o + 224))) (rdB B (o + 256))) (rdB B (o + 288))) (rdB B (o + 320))) (rdB B (o + 352))) (rdB B (o + 384))) (rdB B (o + 416))) (rdB B (o + 448))) (rdB B (o + 480))

theorem sum16_eq (B : FVec F S1536 .f32) (o : ℕ) : sum16 B o = binSum B o 16 := rfl

/-- Piece `j` of the row of 96: one section's half, summed over the lanes. -/
theorem piece_ok (B : FVec F S1536 .f32) (j : Fin 6) (p : FVec F S16 .f32) (o : ℕ) (ho : o = 512 * (j.val / 2) + 16 * (j.val % 2))
    (inb : ∀ a, (![16 * j.val] : Fin 1 → ℕ) a + S16.size a ≤ S96.size a) (hp : p = sum16 B o) :
    ∀ x : (Rect.unit (s := S96) ![16 * j.val] S16.size inb).shape.Idx, p x = resOf B ((Rect.unit (s := S96) ![16 * j.val] S16.size inb).emb x) := by
  rw [sum16_eq] at hp
  subst ho
  subst hp
  intro x
  have hx : (x 0).val < 16 := (x 0).isLt
  have hj := j.isLt
  unfold resOf
  have h1 : (16 * j.val + 1 * (x 0).val) / 32 = j.val / 2 := by omega
  have h2 : (16 * j.val + 1 * (x 0).val) % 32 / 16 = j.val % 2 := by omega
  show _ = binSum B (512 * ((16 * j.val + 1 * (x 0).val) / 32) + 16 * ((16 * j.val + 1 * (x 0).val) % 32 / 16)) 16
    (Shape.ofLane (d := ![16]) ⟨(16 * j.val + 1 * (x 0).val) % 16, Nat.mod_lt _ (by decide)⟩)
  rw [h1, h2]
  refine congrArg _ (funext fun a => ?_)
  obtain rfl : a = (0 : Fin 1) := Subsingleton.elim (α := Fin 1) _ _
  refine Fin.ext ?_
  show (x 0).val = (16 * j.val + 1 * (x 0).val) % 16
  omega

/-- Before group `k`: the two scratches as copied, and the bins after `k` groups. -/
abbrev binsInv (X G : FVec F S16384 .f32) (k : ℕ) (_ : PUnit) : sProp 𝕄 :=
  iprop((((Memref.whole cc1_scratch0 : Memref sig .scVector .vmem S16384 .f32)).view.loc (thr d L) ↦{fullShare} X) ∗ (((Memref.whole cc1_scratch1 : Memref sig .scVector .vmem S16384 .f32)).view.loc (thr d L) ↦{fullShare} G) ∗ (((Memref.whole cc1_scratch2 : Memref sig .scVector .vmem S1536 .f32)).view.loc (thr d L) ↦{fullShare} (bins X G k : FVec F S1536 .f32)))

set_option maxHeartbeats 40000000 in
/-- One subcore, from its part of the two tables, its row of the result, its four scratch buffers and its three
    semaphores at zero: the tables come back unchanged, the row holds `parts`, and every semaphore is at zero again. -/
theorem tile_body (O : CellTallies nD τ sig (HIx 1)) (W : Waits sig (HIx 1))
    (fx : Buf (Elt F) (((Memref.whole main_v3_scv : Memref sig .scVector .hbm S524288 .f32)).view.loc (thr d L))) (fg : Buf (Elt F) (((Memref.whole main_v5_scv : Memref sig .scVector .hbm S524288 .f32)).view.loc (thr d L)))
    (fxs : Buf (Elt F) (((Memref.whole cc1_scratch0 : Memref sig .scVector .vmem S16384 .f32)).view.loc (thr d L))) (fgs : Buf (Elt F) (((Memref.whole cc1_scratch1 : Memref sig .scVector .vmem S16384 .f32)).view.loc (thr d L)))
    (fb : Buf (Elt F) (((Memref.whole cc1_scratch2 : Memref sig .scVector .vmem S1536 .f32)).view.loc (thr d L))) (fr : Buf (Elt F) (((Memref.whole cc1_scratch3 : Memref sig .scVector .vmem S96 .f32)).view.loc (thr d L)))
    (fo : Buf (Elt F) (((Memref.whole main_v6_scv : Memref sig .scVector .hbm S32x96 .f32)).view.loc (thr d L)))
 :
    (iprop(Transfers.MayWaits (thr d L) (none : HIx 1) O
        ∗ (((Memref.whole main_v3_scv : Memref sig .scVector .hbm S524288 .f32)).view.loc (thr d L) ↦[slab (wid L)]{fullShare} fx) ∗ (((Memref.whole main_v5_scv : Memref sig .scVector .hbm S524288 .f32)).view.loc (thr d L) ↦[slab (wid L)]{fullShare} fg)
        ∗ (((Memref.whole cc1_scratch0 : Memref sig .scVector .vmem S16384 .f32)).view.loc (thr d L) ↦{fullShare} fxs) ∗ (((Memref.whole cc1_scratch1 : Memref sig .scVector .vmem S16384 .f32)).view.loc (thr d L) ↦{fullShare} fgs)
        ∗ (((Memref.whole cc1_scratch2 : Memref sig .scVector .vmem S1536 .f32)).view.loc (thr d L) ↦{fullShare} fb) ∗ (((Memref.whole cc1_scratch3 : Memref sig .scVector .vmem S96 .f32)).view.loc (thr d L) ↦{fullShare} fr)
        ∗ (((Memref.whole main_v6_scv : Memref sig .scVector .hbm S32x96 .f32)).view.loc (thr d L) ↦[orow (wid L)]{fullShare} fo)
        ∗ semVal (thr d L, SemLoc.dma cc1_scratch4.sem) 0 ∗ semVal (thr d L, SemLoc.dma cc1_scratch5.sem) 0
        ∗ semVal (thr d L, SemLoc.dma cc1_scoped0.sem) 0
        ∗ owes (thr d L) O W) : sProp 𝕄)
      ⊢ wp frame (wpE (defs₀ (F := F)) 𝒱₀ (thr d L) none) Set.univ
          (cc1__sc_hist_body (F := F) L (Memref.whole main_v3_scv : Memref sig .scVector .hbm S524288 .f32) (Memref.isWhole_whole _) (Memref.whole main_v5_scv : Memref sig .scVector .hbm S524288 .f32) (Memref.isWhole_whole _) (Memref.whole main_v6_scv : Memref sig .scVector .hbm S32x96 .f32) (Memref.isWhole_whole _)
            (Memref.whole cc1_scratch0 : Memref sig .scVector .vmem S16384 .f32) (Memref.isWhole_whole _) (Memref.whole cc1_scratch1 : Memref sig .scVector .vmem S16384 .f32) (Memref.isWhole_whole _) (Memref.whole cc1_scratch2 : Memref sig .scVector .vmem S1536 .f32) (Memref.isWhole_whole _) (Memref.whole cc1_scratch3 : Memref sig .scVector .vmem S96 .f32) (Memref.isWhole_whole _)
            cc1_scratch4 cc1_scratch5 cc1_scoped0)
          fun _ => iprop((((Memref.whole main_v3_scv : Memref sig .scVector .hbm S524288 .f32)).view.loc (thr d L) ↦[slab (wid L)]{fullShare} fx) ∗ (((Memref.whole main_v5_scv : Memref sig .scVector .hbm S524288 .f32)).view.loc (thr d L) ↦[slab (wid L)]{fullShare} fg)
            ∗ (((Memref.whole main_v6_scv : Memref sig .scVector .hbm S32x96 .f32)).view.loc (thr d L) ↦[orow (wid L)]{fullShare} (parts fx fg : FVec F S32x96 .f32))
            ∗ (∃ f, ((Memref.whole cc1_scratch0 : Memref sig .scVector .vmem S16384 .f32)).view.loc (thr d L) ↦{fullShare} f) ∗ (∃ f, ((Memref.whole cc1_scratch1 : Memref sig .scVector .vmem S16384 .f32)).view.loc (thr d L) ↦{fullShare} f)
            ∗ (∃ f, ((Memref.whole cc1_scratch2 : Memref sig .scVector .vmem S1536 .f32)).view.loc (thr d L) ↦{fullShare} f) ∗ (∃ f, ((Memref.whole cc1_scratch3 : Memref sig .scVector .vmem S96 .f32)).view.loc (thr d L) ↦{fullShare} f)
            ∗ semVal (thr d L, SemLoc.dma cc1_scratch4.sem) 0 ∗ semVal (thr d L, SemLoc.dma cc1_scratch5.sem) 0
            ∗ semVal (thr d L, SemLoc.dma cc1_scoped0.sem) 0
            ∗ ∃ W' : Waits sig (HIx 1), ⌜∀ p ∈ W', p ∈ W ∨ p.2 = none⌝ ∗ owes (thr d L) O W') := by
  rw [cc1__sc_hist_body_eq_skeleton]; unfold cc1__sc_hist_body_skel
  iintro ⟨Hmw, HX, HG, HA, HB, Hb, Hr, Ho, Hsx, Hsg, Hso, HO⟩
  ihave HX := (Entails.of_eq ((splitX d L fx).trans (chain32 _))) $$ HX
  icases HX with ⟨HX0, HX1, HX2, HX3, HX4, HX5, HX6, HX7, HX8, HX9, HX10, HX11, HX12, HX13, HX14, HX15, HX16, HX17, HX18, HX19, HX20, HX21, HX22, HX23, HX24, HX25, HX26, HX27, HX28, HX29, HX30, HX31⟩
  ihave HG := (Entails.of_eq ((splitG d L fg).trans (chain32 _))) $$ HG
  icases HG with ⟨HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31⟩
  ihave HA := (Entails.of_eq ((blocksX d L fxs).trans (chain32 _))) $$ HA
  icases HA with ⟨HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31⟩
  ihave HB := (Entails.of_eq ((blocksG d L fgs).trans (chain32 _))) $$ HB
  icases HB with ⟨HB0, HB1, HB2, HB3, HB4, HB5, HB6, HB7, HB8, HB9, HB10, HB11, HB12, HB13, HB14, HB15, HB16, HB17, HB18, HB19, HB20, HB21, HB22, HB23, HB24, HB25, HB26, HB27, HB28, HB29, HB30, HB31⟩
  ihave Ho := (Entails.of_eq (show (((Memref.whole main_v6_scv : Memref sig .scVector .hbm S32x96 .f32)).view.loc (thr d L) ↦[orow (wid L)]{fullShare} fo : sProp 𝕄) = own d L (oW L) fo by rw [own, oW_set])) $$ Ho
  imod (Transfers.batch_alloc' (countersEmb (U := UU)) (thr d L) (none : HIx 1) ((xB 0).view.amount (SemLoc.dma cc1_scratch4.sem)) (delivX d L fx fxs) (sm := .dma cc1_scratch4.sem) (E := Set.univ)) $$ Hsx with BX
  imod (Transfers.batch_alloc' (countersEmb (U := UU)) (thr d L) (none : HIx 1) ((gB 0).view.amount (SemLoc.dma cc1_scratch5.sem)) (delivG d L fg fgs) (sm := .dma cc1_scratch5.sem) (E := Set.univ)) $$ Hsg with BG
  sl_exec_parts
  have hz : ((Memref.whole cc1_scratch2 : Memref sig .scVector .vmem S1536 .f32)).view.writes (Elt F) ((Memref.whole cc1_scratch2 : Memref sig .scVector .vmem S1536 .f32)).view.junk tile_body.sl.Hb_96 = (bins (F := F) (stage fx (wid L)) (stage fg (wid L)) 0) := by
    funext y
    refine View.read_writes_apply_of_pieces (v := ((Memref.whole cc1_scratch2 : Memref sig .scVector .vmem S1536 .f32)).view) (Val := Elt F) (f := ((Memref.whole cc1_scratch2 : Memref sig .scVector .vmem S1536 .f32)).view.junk) (bins (F := F) (stage fx (wid L)) (stage fg (wid L)) 0) tile_body.sl.Hb_96 ?_ y ?_
    · repeat (refine List.forall_mem_cons.2 ⟨fun _ => rfl, ?_⟩)
      exact List.forall_mem_nil _
    · exact View.cover_of_tiled _ (fun _ => 16) rfl y
  ihave Hb := (Entails.of_eq (congrArg (fun f : Buf (Elt F) (((Memref.whole cc1_scratch2 : Memref sig .scVector .vmem S1536 .f32)).view.loc (thr d L)) => (((Memref.whole cc1_scratch2 : Memref sig .scVector .vmem S1536 .f32)).view.loc (thr d L) ↦{fullShare} f : sProp 𝕄)) hz)) $$ Hb
  ihave HXs := (Entails.of_eq ((chain32 _).symm.trans (landedX d L fx fun c => (xB c).view.junk))) $$ [BX_dst0 BX_dst1 BX_dst2 BX_dst3 BX_dst4 BX_dst5 BX_dst6 BX_dst7 BX_dst8 BX_dst9 BX_dst10 BX_dst11 BX_dst12 BX_dst13 BX_dst14 BX_dst15 BX_dst16 BX_dst17 BX_dst18 BX_dst19 BX_dst20 BX_dst21 BX_dst22 BX_dst23 BX_dst24 BX_dst25 BX_dst26 BX_dst27 BX_dst28 BX_dst29 BX_dst30 BX_dst31]
  · isplitl [BX_dst0]; · iexact BX_dst0
    isplitl [BX_dst1]; · iexact BX_dst1
    isplitl [BX_dst2]; · iexact BX_dst2
    isplitl [BX_dst3]; · iexact BX_dst3
    isplitl [BX_dst4]; · iexact BX_dst4
    isplitl [BX_dst5]; · iexact BX_dst5
    isplitl [BX_dst6]; · iexact BX_dst6
    isplitl [BX_dst7]; · iexact BX_dst7
    isplitl [BX_dst8]; · iexact BX_dst8
    isplitl [BX_dst9]; · iexact BX_dst9
    isplitl [BX_dst10]; · iexact BX_dst10
    isplitl [BX_dst11]; · iexact BX_dst11
    isplitl [BX_dst12]; · iexact BX_dst12
    isplitl [BX_dst13]; · iexact BX_dst13
    isplitl [BX_dst14]; · iexact BX_dst14
    isplitl [BX_dst15]; · iexact BX_dst15
    isplitl [BX_dst16]; · iexact BX_dst16
    isplitl [BX_dst17]; · iexact BX_dst17
    isplitl [BX_dst18]; · iexact BX_dst18
    isplitl [BX_dst19]; · iexact BX_dst19
    isplitl [BX_dst20]; · iexact BX_dst20
    isplitl [BX_dst21]; · iexact BX_dst21
    isplitl [BX_dst22]; · iexact BX_dst22
    isplitl [BX_dst23]; · iexact BX_dst23
    isplitl [BX_dst24]; · iexact BX_dst24
    isplitl [BX_dst25]; · iexact BX_dst25
    isplitl [BX_dst26]; · iexact BX_dst26
    isplitl [BX_dst27]; · iexact BX_dst27
    isplitl [BX_dst28]; · iexact BX_dst28
    isplitl [BX_dst29]; · iexact BX_dst29
    isplitl [BX_dst30]; · iexact BX_dst30
    iexact BX_dst31
  ihave HGs := (Entails.of_eq ((chain32 _).symm.trans (landedG d L fg fun c => (gB c).view.junk))) $$ [BG_dst0 BG_dst1 BG_dst2 BG_dst3 BG_dst4 BG_dst5 BG_dst6 BG_dst7 BG_dst8 BG_dst9 BG_dst10 BG_dst11 BG_dst12 BG_dst13 BG_dst14 BG_dst15 BG_dst16 BG_dst17 BG_dst18 BG_dst19 BG_dst20 BG_dst21 BG_dst22 BG_dst23 BG_dst24 BG_dst25 BG_dst26 BG_dst27 BG_dst28 BG_dst29 BG_dst30 BG_dst31]
  · isplitl [BG_dst0]; · iexact BG_dst0
    isplitl [BG_dst1]; · iexact BG_dst1
    isplitl [BG_dst2]; · iexact BG_dst2
    isplitl [BG_dst3]; · iexact BG_dst3
    isplitl [BG_dst4]; · iexact BG_dst4
    isplitl [BG_dst5]; · iexact BG_dst5
    isplitl [BG_dst6]; · iexact BG_dst6
    isplitl [BG_dst7]; · iexact BG_dst7
    isplitl [BG_dst8]; · iexact BG_dst8
    isplitl [BG_dst9]; · iexact BG_dst9
    isplitl [BG_dst10]; · iexact BG_dst10
    isplitl [BG_dst11]; · iexact BG_dst11
    isplitl [BG_dst12]; · iexact BG_dst12
    isplitl [BG_dst13]; · iexact BG_dst13
    isplitl [BG_dst14]; · iexact BG_dst14
    isplitl [BG_dst15]; · iexact BG_dst15
    isplitl [BG_dst16]; · iexact BG_dst16
    isplitl [BG_dst17]; · iexact BG_dst17
    isplitl [BG_dst18]; · iexact BG_dst18
    isplitl [BG_dst19]; · iexact BG_dst19
    isplitl [BG_dst20]; · iexact BG_dst20
    isplitl [BG_dst21]; · iexact BG_dst21
    isplitl [BG_dst22]; · iexact BG_dst22
    isplitl [BG_dst23]; · iexact BG_dst23
    isplitl [BG_dst24]; · iexact BG_dst24
    isplitl [BG_dst25]; · iexact BG_dst25
    isplitl [BG_dst26]; · iexact BG_dst26
    isplitl [BG_dst27]; · iexact BG_dst27
    isplitl [BG_dst28]; · iexact BG_dst28
    isplitl [BG_dst29]; · iexact BG_dst29
    isplitl [BG_dst30]; · iexact BG_dst30
    iexact BG_dst31
  ihave HXa := (Entails.of_eq ((chain32 _).symm.trans (splitX d L fx).symm)) $$ [BX_src0 BX_src1 BX_src2 BX_src3 BX_src4 BX_src5 BX_src6 BX_src7 BX_src8 BX_src9 BX_src10 BX_src11 BX_src12 BX_src13 BX_src14 BX_src15 BX_src16 BX_src17 BX_src18 BX_src19 BX_src20 BX_src21 BX_src22 BX_src23 BX_src24 BX_src25 BX_src26 BX_src27 BX_src28 BX_src29 BX_src30 BX_src31]
  · isplitl [BX_src0]; · iexact BX_src0
    isplitl [BX_src1]; · iexact BX_src1
    isplitl [BX_src2]; · iexact BX_src2
    isplitl [BX_src3]; · iexact BX_src3
    isplitl [BX_src4]; · iexact BX_src4
    isplitl [BX_src5]; · iexact BX_src5
    isplitl [BX_src6]; · iexact BX_src6
    isplitl [BX_src7]; · iexact BX_src7
    isplitl [BX_src8]; · iexact BX_src8
    isplitl [BX_src9]; · iexact BX_src9
    isplitl [BX_src10]; · iexact BX_src10
    isplitl [BX_src11]; · iexact BX_src11
    isplitl [BX_src12]; · iexact BX_src12
    isplitl [BX_src13]; · iexact BX_src13
    isplitl [BX_src14]; · iexact BX_src14
    isplitl [BX_src15]; · iexact BX_src15
    isplitl [BX_src16]; · iexact BX_src16
    isplitl [BX_src17]; · iexact BX_src17
    isplitl [BX_src18]; · iexact BX_src18
    isplitl [BX_src19]; · iexact BX_src19
    isplitl [BX_src20]; · iexact BX_src20
    isplitl [BX_src21]; · iexact BX_src21
    isplitl [BX_src22]; · iexact BX_src22
    isplitl [BX_src23]; · iexact BX_src23
    isplitl [BX_src24]; · iexact BX_src24
    isplitl [BX_src25]; · iexact BX_src25
    isplitl [BX_src26]; · iexact BX_src26
    isplitl [BX_src27]; · iexact BX_src27
    isplitl [BX_src28]; · iexact BX_src28
    isplitl [BX_src29]; · iexact BX_src29
    isplitl [BX_src30]; · iexact BX_src30
    iexact BX_src31
  ihave HGa := (Entails.of_eq ((chain32 _).symm.trans (splitG d L fg).symm)) $$ [BG_src0 BG_src1 BG_src2 BG_src3 BG_src4 BG_src5 BG_src6 BG_src7 BG_src8 BG_src9 BG_src10 BG_src11 BG_src12 BG_src13 BG_src14 BG_src15 BG_src16 BG_src17 BG_src18 BG_src19 BG_src20 BG_src21 BG_src22 BG_src23 BG_src24 BG_src25 BG_src26 BG_src27 BG_src28 BG_src29 BG_src30 BG_src31]
  · isplitl [BG_src0]; · iexact BG_src0
    isplitl [BG_src1]; · iexact BG_src1
    isplitl [BG_src2]; · iexact BG_src2
    isplitl [BG_src3]; · iexact BG_src3
    isplitl [BG_src4]; · iexact BG_src4
    isplitl [BG_src5]; · iexact BG_src5
    isplitl [BG_src6]; · iexact BG_src6
    isplitl [BG_src7]; · iexact BG_src7
    isplitl [BG_src8]; · iexact BG_src8
    isplitl [BG_src9]; · iexact BG_src9
    isplitl [BG_src10]; · iexact BG_src10
    isplitl [BG_src11]; · iexact BG_src11
    isplitl [BG_src12]; · iexact BG_src12
    isplitl [BG_src13]; · iexact BG_src13
    isplitl [BG_src14]; · iexact BG_src14
    isplitl [BG_src15]; · iexact BG_src15
    isplitl [BG_src16]; · iexact BG_src16
    isplitl [BG_src17]; · iexact BG_src17
    isplitl [BG_src18]; · iexact BG_src18
    isplitl [BG_src19]; · iexact BG_src19
    isplitl [BG_src20]; · iexact BG_src20
    isplitl [BG_src21]; · iexact BG_src21
    isplitl [BG_src22]; · iexact BG_src22
    isplitl [BG_src23]; · iexact BG_src23
    isplitl [BG_src24]; · iexact BG_src24
    isplitl [BG_src25]; · iexact BG_src25
    isplitl [BG_src26]; · iexact BG_src26
    isplitl [BG_src27]; · iexact BG_src27
    isplitl [BG_src28]; · iexact BG_src28
    isplitl [BG_src29]; · iexact BG_src29
    isplitl [BG_src30]; · iexact BG_src30
    iexact BG_src31
  sl_for (binsInv d L (stage (F := F) fx (wid L)) (stage (F := F) fg (wid L))) $$ [HXs HGs Hb]
  case region =>
    intro k _
    exact loop_body d L k _ _ _
  · unfold binsInv
    isplitl [HXs]; · iexact HXs
    isplitl [HGs]; · iexact HGs
    iexact Hb
  iintro %_ HI
  unfold binsInv
  icases HI with ⟨HXs, HGs, Hb⟩
  obtain ⟨B, hB⟩ : ∃ B : FVec F S1536 .f32, B = bins (stage (F := F) fx (wid L)) (stage (F := F) fg (wid L)) (Scf.trips k1_t1_loop.lb k1_t1_loop.ub k1_t1_loop.st) := ⟨_, rfl⟩
  ihave Hb := (Entails.of_eq (congrArg (fun f : Buf (Elt F) (((Memref.whole cc1_scratch2 : Memref sig .scVector .vmem S1536 .f32)).view.loc (thr d L)) => (((Memref.whole cc1_scratch2 : Memref sig .scVector .vmem S1536 .f32)).view.loc (thr d L) ↦{fullShare} f : sProp 𝕄)) hB.symm)) $$ Hb
  sl_exec_parts
  ihave Ho := (Entails.of_eq (row_out d L fo _ fx fg ?_)) $$ Ho
  · rw [rowOf, show (32 : ℕ) = Scf.trips k1_t1_loop.lb k1_t1_loop.ub k1_t1_loop.st from rfl, ← hB]
    refine funext fun y => ?_
    refine View.read_writes_apply_of_pieces (v := ((Memref.whole cc1_scratch3 : Memref sig .scVector .vmem S96 .f32)).view) (Val := Elt F) (f := fr) (resOf _) _ ?_ y (View.cover_of_tiled _ (fun _ => 16) rfl y)
    refine List.forall_mem_cons.2 ⟨piece_ok B 5 _ 1040 rfl inb_S96_S16_80 ?_, ?_⟩
    · try unfold tile_body.sl.r_5
      try unfold tile_body.sl.r_4
      try unfold tile_body.sl.r_3
      try unfold tile_body.sl.r_2
      try unfold tile_body.sl.r_1
      try unfold tile_body.sl.r
      simp only [k1_pay84, k1_pay85, k1_pay86, k1_pay87, k1_pay88, k1_pay89, k1_pay90, k1_pay91, k1_pay92, k1_pay93, sum16, Nat.reduceAdd]
      exact congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)
    refine List.forall_mem_cons.2 ⟨piece_ok B 4 _ 1024 rfl inb_S96_S16_64 ?_, ?_⟩
    · try unfold tile_body.sl.r_5
      try unfold tile_body.sl.r_4
      try unfold tile_body.sl.r_3
      try unfold tile_body.sl.r_2
      try unfold tile_body.sl.r_1
      try unfold tile_body.sl.r
      simp only [k1_pay84, k1_pay85, k1_pay86, k1_pay87, k1_pay88, k1_pay89, k1_pay90, k1_pay91, k1_pay92, k1_pay93, sum16, Nat.reduceAdd]
      exact congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)
    refine List.forall_mem_cons.2 ⟨piece_ok B 3 _ 528 rfl inb_S96_S16_48 ?_, ?_⟩
    · try unfold tile_body.sl.r_5
      try unfold tile_body.sl.r_4
      try unfold tile_body.sl.r_3
      try unfold tile_body.sl.r_2
      try unfold tile_body.sl.r_1
      try unfold tile_body.sl.r
      simp only [k1_pay84, k1_pay85, k1_pay86, k1_pay87, k1_pay88, k1_pay89, k1_pay90, k1_pay91, k1_pay92, k1_pay93, sum16, Nat.reduceAdd]
      exact congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)
    refine List.forall_mem_cons.2 ⟨piece_ok B 2 _ 512 rfl inb_S96_S16_32 ?_, ?_⟩
    · try unfold tile_body.sl.r_5
      try unfold tile_body.sl.r_4
      try unfold tile_body.sl.r_3
      try unfold tile_body.sl.r_2
      try unfold tile_body.sl.r_1
      try unfold tile_body.sl.r
      simp only [k1_pay84, k1_pay85, k1_pay86, k1_pay87, k1_pay88, k1_pay89, k1_pay90, k1_pay91, k1_pay92, k1_pay93, sum16, Nat.reduceAdd]
      exact congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)
    refine List.forall_mem_cons.2 ⟨piece_ok B 1 _ 16 rfl inb_S96_S16_16 ?_, ?_⟩
    · try unfold tile_body.sl.r_5
      try unfold tile_body.sl.r_4
      try unfold tile_body.sl.r_3
      try unfold tile_body.sl.r_2
      try unfold tile_body.sl.r_1
      try unfold tile_body.sl.r
      simp only [k1_pay84, k1_pay85, k1_pay86, k1_pay87, k1_pay88, k1_pay89, k1_pay90, k1_pay91, k1_pay92, k1_pay93, sum16, Nat.reduceAdd]
      exact congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)
    refine List.forall_mem_cons.2 ⟨piece_ok B 0 _ 0 rfl inb_S96_S16_0 ?_, ?_⟩
    · try unfold tile_body.sl.r_5
      try unfold tile_body.sl.r_4
      try unfold tile_body.sl.r_3
      try unfold tile_body.sl.r_2
      try unfold tile_body.sl.r_1
      try unfold tile_body.sl.r
      simp only [k1_pay84, k1_pay85, k1_pay86, k1_pay87, k1_pay88, k1_pay89, k1_pay90, k1_pay91, k1_pay92, k1_pay93, sum16, Nat.reduceAdd]
      exact congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf (congrArg₂ addf rfl (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)) (readB d L B _ _)
    exact List.forall_mem_nil _
  sl_step
  isplitl [HXa]; · iexact HXa
  isplitl [HGa]; · iexact HGa
  isplitl [Ho]; · iexact Ho
  isplitl [HXs]; · iexists _; iexact HXs
  isplitl [HGs]; · iexists _; iexact HGs
  isplitl [Hb]; · iexists _; iexact Hb
  isplitl [Hr]; · iexists _; iexact Hr
  isplitl [BX]; · iexact BX
  isplitl [BG]; · iexact BG
  isplitl [Hso]; · iexact Hso
  iexists _; isplitr; swap
  · iexact HO
  · ipureintro; intro p hp
    repeat (rcases Finset.mem_insert.mp hp with hp | hp; · exact .inr (hp ▸ rfl))
    exact .inl hp

end Cert.Proof.Hist

end
-- ==== Proof.Launch.lean ====
/-
  The launch of the histogram call: what each subcore is handed, the run of one subcore under the launch's ghost state, and
  the pieces of all subcores joined.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base
public import proofs.«01_k».proof.Proof.Spec
public import proofs.«01_k».proof.Proof.Windows
public import proofs.«01_k».proof.Proof.Tile
public import proofs.«01_k».proof.Proof.Regions
public import proofs.«01_k».proof.Proof.Gen.KernelIdeal.Launch

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
instance EH_landsIn : (EH : Emb UH 𝕄).LandsIn (upEmb : UEmb _ 𝕄) := by unfold EH; infer_instance

/-- The pipelines' rounds, the left factor of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

theorem nSub_zero : (K (F := F)).nSub 0 = 16 := rfl
theorem nCore_zero : (K (F := F)).nCore 0 = 2 := rfl

section Call
variable [FloatOps F]
variable (X G : Dev nD → FVec F S524288 .f32) (O₀ : Dev nD → FVec F S32x96 .f32)

/-- What subcore number `w` holds of the two tables and of the parts. -/
abbrev piece (f : Dev nD → FVec F S32x96 .f32) (d : Dev nD) (w : ℕ) : sProp 𝕄 :=
  iprop((xLoc d ↦[slab w]{fullShare} X d) ∗ (gLoc d ↦[slab w]{fullShare} G d) ∗ (oLoc d ↦[orow w]{fullShare} f d))

/-- The parts once every subcore has written its row. -/
abbrev wrote : Dev nD → FVec F S32x96 .f32 := fun d => parts (X d) (G d)

/-- The call takes the two tables and the parts, each subcore its own rows of the three, and brings them back with
    the parts written. -/
def PY : (K (F := F)).Pay (nD := nD) (Val := Elt F) (Name := ℕ) (U := UU) where
  st := fun q d c => match q with | 0 => bigSep Finset.univ fun i : Fin ((K (F := F)).nSub 0) => piece X G O₀ d (2 * i.val + c.val)
  dn := fun q d c => match q with | 0 => bigSep Finset.univ fun i : Fin ((K (F := F)).nSub 0) => piece X G (wrote X G) d (2 * i.val + c.val)
  go := fun q d c i => match q with | 0 => piece X G O₀ d (2 * i.val + c.val)
  td := fun q d c i => match q with | 0 => piece X G (wrote X G) d (2 * i.val + c.val)
  x := fun _ _ => iprop(emp)

instance PY_storable : (PY X G O₀).IsStorable where
  st q d c := match q with
    | 0 => (inferInstance : BI.Storable (upEmb : UEmb _ 𝕄) (bigSep Finset.univ fun i : Fin ((K (F := F)).nSub 0) => piece X G O₀ d (2 * i.val + c.val)))
  dn q d c := match q with
    | 0 => (inferInstance : BI.Storable (upEmb : UEmb _ 𝕄) (bigSep Finset.univ fun i : Fin ((K (F := F)).nSub 0) => piece X G (wrote X G) d (2 * i.val + c.val)))
  go q d c i := match q with
    | 0 => (inferInstance : BI.Storable (upEmb : UEmb _ 𝕄) (piece X G O₀ d (2 * i.val + c.val)))
  td q d c i := match q with
    | 0 => (inferInstance : BI.Storable (upEmb : UEmb _ 𝕄) (piece X G (wrote X G) d (2 * i.val + c.val)))

/-! ## One subcore -/

section Tile
variable (d : Dev nD) (L : grid1.Coords)

abbrev cellX : GSem nD τ sig := (thr d L, .dma cc1_scratch4.sem)
abbrev cellG : GSem nD τ sig := (thr d L, .dma cc1_scratch5.sem)
abbrev cellO : GSem nD τ sig := (thr d L, .dma cc1_scoped0.sem)

omit [FloatOps F] in
/-- The three semaphores of the body are among the subcore's own. -/
theorem ownSems0_V :
    (ownSems0 (thr d L) : sProp 𝕄)
      = iprop(semVal (cellX d L) 0 ∗ semVal (cellG d L) 0 ∗ semVal (cellO d L) 0
          ∗ bigSep ((((ownCells (thr d L)).erase (cellX d L)).erase (cellG d L)).erase (cellO d L)) fun g => semVal g 0) := by
  unfold SparseCore.Cfg.ownSems0
  rw [SparseCore.bigSep_erase' ((mem_ownCells (g := cellX d L)).mpr ⟨rfl, by
      show (SemLoc.dma cc1_scratch4.sem : SemLoc sig).isScoped .scVector = true; decide⟩),
    SparseCore.bigSep_erase' (Finset.mem_erase.mpr ⟨fun e => absurd (Prod.mk.inj e).2 (by decide), (mem_ownCells (g := cellG d L)).mpr ⟨rfl, by
      show (SemLoc.dma cc1_scratch5.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := cellO d L)).mpr ⟨rfl, by show (SemLoc.dma cc1_scoped0.sem : SemLoc sig).isScoped .scVector = true; decide⟩⟩⟩)]

omit [FloatOps F] in
/-- The four scratch buffers are among the subcore's own, each at some contents. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  have ne {a b : Ref sig .scVector} (h : a ≠ b) : (Proc.scVector (cV L) (jV L)).devRef a ≠ (Proc.scVector (cV L) (jV L)).devRef b :=
    fun e => h (Proc.devRef_injective _ e)
  rw [SparseCore.bigSep_erase' (Finset.mem_erase.mpr ⟨ne (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨ne (show (cc1_scratch3 : Ref sig .scVector) ≠ cc1_scratch2 by decide),
      Finset.mem_erase.mpr ⟨ne (show (cc1_scratch3 : Ref sig .scVector) ≠ cc1_scratch1 by decide),
      Finset.mem_erase.mpr ⟨ne (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩)]

theorem tile_task (hF : (K (F := F)).Facts) (O : CellTallies nD τ sig (HIx 1)) (W : Waits sig (HIx 1)) (hO : ∀ g, O g none = 0) :
    (iprop(levAts (K (F := F)).L (K (F := F)).lev ∗ emp ∗ piece X G O₀ d (wid L)
        ∗ scopedBufs (thr d L) ∗ scopedSems0 (thr d L) ∗ owes (thr d L) O W) : sProp 𝕄)
      ⊢ wp frame (wpE (defs₀ (F := F)) 𝒱₀ (thr d L) none) Set.univ
          (cc1__sc_hist_body (F := F) L (Memref.whole main_v3_scv) (Memref.isWhole_whole _) (Memref.whole main_v5_scv) (Memref.isWhole_whole _) (Memref.whole main_v6_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scoped0)
          fun _ => iprop(piece X G (wrote X G) d (wid L) ∗ scopedBufs (thr d L) ∗ scopedSems0 (thr d L)
            ∗ ∃ W', ⌜∀ p ∈ W', p ∈ W ∨ p.2 = none ∨ SparseCore.Cfg.Blocks.blk (0 : Fin 1) p.2⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Hg, Ho⟩, ⟨⟨%fxs, Hxs⟩, ⟨%fgs, Hgs⟩, ⟨%fb, Hb⟩, ⟨%fr, Hr⟩, Hbufs⟩, ⟨Hsx, Hsg, Hso, Hsems⟩, HO⟩
  iapply (wp_wand_r frame (wpE (defs₀ (F := F)) 𝒱₀ (thr d L) none) Set.univ)
  isplitl [Hx Hg Ho Hxs Hgs Hb Hr Hsx Hsg Hso HO]
  · iapply (tile_body d L O W (X d) (G d) fxs fgs fb fr (O₀ d)) $$ [Hx Hg Ho Hxs Hgs Hb Hr Hsx Hsg Hso HO]
    isplitr
    · iapply ((K (F := F)).mayWaits_none (thr := thr d L) hO); iexact Hlv
    isplitl [Hx]; · iexact Hx
    isplitl [Hg]; · iexact Hg
    isplitl [Hxs]; · iexact Hxs
    isplitl [Hgs]; · iexact Hgs
    isplitl [Hb]; · iexact Hb
    isplitl [Hr]; · iexact Hr
    isplitl [Ho]; · iexact Ho
    isplitl [Hsx]; · iexact Hsx
    isplitl [Hsg]; · iexact Hsg
    isplitl [Hso]; · iexact Hso
    iexact HO
  iintro %a ⟨Hx, Hg, Ho, Hxs, Hgs, Hb, Hr, Hsx, Hsg, Hso, %W', %hW', HO⟩
  isplitl [Hx Hg Ho]
  · isplitl [Hx]; · iexact Hx
    isplitl [Hg]; · iexact Hg
    iexact Ho
  isplitl [Hxs Hgs Hb Hr Hbufs]
  · isplitl [Hxs]; · iexact Hxs
    isplitl [Hgs]; · iexact Hgs
    isplitl [Hb]; · iexact Hb
    isplitl [Hr]; · iexact Hr
    iexact Hbufs
  isplitl [Hsx Hsg Hso Hsems]
  · isplitl [Hsx]; · iexact Hsx
    isplitl [Hsg]; · iexact Hsg
    isplitl [Hso]; · iexact Hso
    iexact Hsems
  iexists W'; isplitr
  · ipureintro; exact fun p hp => (hW' p hp).imp_right Or.inl
  · iexact HO

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_hist_body (coordsV c s)
          (Memref.whole main_v3_scv) (Memref.isWhole_whole _) (Memref.whole main_v5_scv) (Memref.isWhole_whole _) (Memref.whole main_v6_scv) (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _)
          cc1_scratch4 cc1_scratch5 cc1_scoped0) ⟨⟩ c s := rfl

theorem tileObl (hF : (K (F := F)).Facts) : (K (F := F)).TileObl (D (F := F)) 𝒱 (PY X G O₀) v₀ 0 := by
  intro d c i O W hO _ _
  simp only [show (PY X G O₀).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hw : wid (coordsV ⟨_, hc.1⟩ ⟨_, hc.2⟩) = 2 * i.val + c.val := rfl
  have H := tile_task X G O₀ d (coordsV ⟨_, hc.1⟩ ⟨_, hc.2⟩) hF O W hO
  rw [hw] at H
  generalize (cc1__sc_hist_body (F := F) (coordsV ⟨_, hc.1⟩ ⟨_, hc.2⟩) (Memref.whole main_v3_scv) (Memref.isWhole_whole _) (Memref.whole main_v5_scv) (Memref.isWhole_whole _)
    (Memref.whole main_v6_scv) (Memref.isWhole_whole _) (Memref.whole cc1_scratch0) (Memref.isWhole_whole _) (Memref.whole cc1_scratch1) (Memref.isWhole_whole _)
    (Memref.whole cc1_scratch2) (Memref.isWhole_whole _) (Memref.whole cc1_scratch3) (Memref.isWhole_whole _) cc1_scratch4 cc1_scratch5 cc1_scoped0) = p at H ⊢
  exact H

theorem vecSplit : (K (F := F)).VecSplit' (PY X G O₀) 0 := by
  intro d c
  show (bigSep Finset.univ fun i : Fin ((K (F := F)).nSub 0) => piece X G O₀ d (2 * i.val + c.val)) ⊢ |={Set.univ}=> iprop(
      (bigSep Finset.univ fun i : Fin ((K (F := F)).nSub 0) => piece X G O₀ d (2 * i.val + c.val))
      ∗ ((bigSep Finset.univ fun i : Fin ((K (F := F)).nSub 0) => piece X G (wrote X G) d (2 * i.val + c.val))
          -∗ bigSep Finset.univ fun i : Fin ((K (F := F)).nSub 0) => piece X G (wrote X G) d (2 * i.val + c.val)))
  iintro H; imodintro
  isplitl [H]; · iexact H
  iintro H; iexact H

/-! ## Both cores together -/

/-- The subcores of both cores, by number. -/
abbrev wn (p : Fin 2 × Fin 16) : ℕ := 2 * p.2.val + p.1.val

theorem wn_inj {p p' : Fin 2 × Fin 16} (h : wn p = wn p') : p = p' := by
  have h1 := p.1.isLt; have h2 := p'.1.isLt
  exact Prod.ext (Fin.ext (by simp only [wn] at h; omega)) (Fin.ext (by simp only [wn] at h; omega))

theorem slabs_disjoint : ∀ p ∈ (Finset.univ : Finset (Fin 2 × Fin 16)), ∀ p' ∈ (Finset.univ : Finset (Fin 2 × Fin 16)), p ≠ p' → Disjoint (slab (wn p)) (slab (wn p')) := by
  intro p _ p' _ h
  refine Finset.disjoint_left.mpr fun i h1 h2 => h (wn_inj ?_)
  exact ((Finset.mem_filter.mp h1).2.symm.trans (Finset.mem_filter.mp h2).2)
theorem orows_disjoint : ∀ p ∈ (Finset.univ : Finset (Fin 2 × Fin 16)), ∀ p' ∈ (Finset.univ : Finset (Fin 2 × Fin 16)), p ≠ p' → Disjoint (orow (wn p)) (orow (wn p')) := by
  intro p _ p' _ h
  refine Finset.disjoint_left.mpr fun i h1 h2 => h (wn_inj ?_)
  exact ((Finset.mem_filter.mp h1).2.symm.trans (Finset.mem_filter.mp h2).2)

theorem wn_surj {w : ℕ} (h : w < 32) : ∃ p : Fin 2 × Fin 16, wn p = w :=
  ⟨(⟨w % 2, by omega⟩, ⟨w / 2, by omega⟩), by simp only [wn]; omega⟩

theorem slabs_cover : (Finset.univ : Finset (Fin 2 × Fin 16)).biUnion (fun p => slab (wn p)) = Finset.univ := by
  refine Finset.eq_univ_iff_forall.mpr fun i => Finset.mem_biUnion.mpr ?_
  have hi : (i 0).val % 16384 / 512 < 32 := by omega
  obtain ⟨p, hp⟩ := wn_surj hi
  exact ⟨p, Finset.mem_univ _, Finset.mem_filter.mpr ⟨Finset.mem_univ _, hp.symm⟩⟩
theorem orows_cover : (Finset.univ : Finset (Fin 2 × Fin 16)).biUnion (fun p => orow (wn p)) = Finset.univ := by
  refine Finset.eq_univ_iff_forall.mpr fun i => Finset.mem_biUnion.mpr ?_
  obtain ⟨p, hp⟩ := wn_surj (show (i 0).val < 32 from (i 0).isLt)
  exact ⟨p, Finset.mem_univ _, Finset.mem_filter.mpr ⟨Finset.mem_univ _, hp.symm⟩⟩

/-- The three buffers whole are the pieces of all subcores of both cores. -/
theorem pieces_eq (f : Dev nD → FVec F S32x96 .f32) (d : Dev nD) :
    (bigSep Finset.univ fun c : Fin ((K (F := F)).nCore 0) => bigSep Finset.univ fun i : Fin ((K (F := F)).nSub 0) => piece X G f d (2 * i.val + c.val))
      = (iprop((xLoc d ↦{fullShare} X d) ∗ (gLoc d ↦{fullShare} G d) ∗ (oLoc d ↦{fullShare} f d)) : sProp 𝕄) := by
  show (bigSep Finset.univ fun c : Fin 2 => bigSep Finset.univ fun i : Fin 16 => piece X G f d (wn (c, i))) = _
  refine (bigSep_univ_prod fun p : Fin 2 × Fin 16 => piece X G f d (wn p)).symm.trans ?_
  rw [bigSep_sep', bigSep_sep']
  refine congrArg₂ _ ?_ (congrArg₂ _ ?_ ?_)
  · exact (pointsTo_biUnion Finset.univ (ℓ := xLoc d) (fun p => slab (wn p)) slabs_disjoint).symm.trans (by rw [slabs_cover])
  · exact (pointsTo_biUnion Finset.univ (ℓ := gLoc d) (fun p => slab (wn p)) slabs_disjoint).symm.trans (by rw [slabs_cover])
  · exact (pointsTo_biUnion Finset.univ (ℓ := oLoc d) (fun p => orow (wn p)) orows_disjoint).symm.trans (by rw [orows_cover])

theorem st0_eq (d : Dev nD) : (bigSep Finset.univ fun c : Fin ((K (F := F)).nCore 0) => (PY X G O₀).st 0 d c)
    = (iprop((xLoc d ↦{fullShare} X d) ∗ (gLoc d ↦{fullShare} G d) ∗ (oLoc d ↦{fullShare} O₀ d)) : sProp 𝕄) := pieces_eq X G O₀ d
theorem dn0_eq (d : Dev nD) : (bigSep Finset.univ fun c : Fin ((K (F := F)).nCore 0) => (PY X G O₀).dn 0 d c)
    = (iprop((xLoc d ↦{fullShare} X d) ∗ (gLoc d ↦{fullShare} G d) ∗ (oLoc d ↦{fullShare} parts (X d) (G d))) : sProp 𝕄) := pieces_eq X G (wrote X G) d

/-! ## The launch element of the ghost state -/

abbrev pins := Pipeline.pin (pcfgs (F := F)) (adm (F := F))
theorem pins_inj : Function.Injective (Pipeline.cellOf (nD := nD) (τ := τ) (pins (F := F))) := cellOf_inj

def u₀ : UU := (initOf (K (F := F)).hsCells (K (F := F)).hsToks,
  (initOf (Pipeline.cells (pins (F := F)) pins_inj) (Pipeline.launchToks (pins (F := F)) pins_inj), 1))

/-- What each device's @main starts with for its two pipelines. -/
abbrev pghost (d : Dev nD) : sProp 𝕄 :=
  iprop((bigSep Finset.univ fun p => Pipeline.cellsGhost (pins (F := F)) EP p d) ∗ (bigSep Finset.univ fun p => Pipeline.toksInit (pins (F := F)) EP p d))

theorem Px (thr : Thread nD τ) : (bigSep Finset.univ fun q : Fin 1 => (PY X G O₀).x q thr) = (iprop(emp) : sProp 𝕄) :=
  bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => pghost (F := F) d)
        ∗ bigSep Finset.univ fun thr : Thread nD τ => bigSep Finset.univ fun q : Fin 1 => (PY X G O₀).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  ihave HP := (Entails.of_eq (show BI.own (((Emb.inl : Emb UP (UP × Counters)).trans embR : Emb UP 𝕄) (initOf (Pipeline.cells (pins (F := F)) pins_inj) (Pipeline.launchToks (pins (F := F)) pins_inj))) = BI.own ((EP (F := F)) (initOf (Pipeline.cells (pins (F := F)) pins_inj) (Pipeline.launchToks (pins (F := F)) pins_inj))) from rfl)) $$ HP
  imod (Pipeline.fund_ghost (pins (F := F)) (EP (F := F)) pins_inj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (PY X G O₀).x q thr) = (iprop(emp) : sProp 𝕄) from
    (bigSep_congr fun thr _ => Px X G O₀ thr).trans (bigSep_emp_const _)]
  iempintro

end Call

end Cert.Proof.Hist

end
-- ==== Proof.Run.lean ====
/-
  The run of @main on the TensorCore: three host re-layouts, the cross-entropy call, the histogram call on the SparseCores
  and the combining call.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Base
public import proofs.«01_k».proof.Proof.Spec
public import proofs.«01_k».proof.Proof.Calls
public import proofs.«01_k».proof.Proof.Regions
public import proofs.«01_k».proof.Proof.Launch
public import Idealize.ShloMosaic.Lib.Pipeline.Frame

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

section Run
variable [FloatOps F]

/-! ## What the buffers hold between the steps of @main -/

/-- A table laid out class by class, as the subcores read it. -/
def table (a : FVec F S16384x32 .f32) : FVec F S524288 .f32 :=
  shapeCast S524288 (transpose S32x16384 [1, 0] a transposes_S16384x32_S32x16384_1_0) shapeCasts_S32x16384_S524288

/-- The class weights as one row. -/
def wrow (w : FVec F S32 .f32) : FVec F S1x32 .f32 := shapeCast S1x32 w shapeCasts_S32_S1x32

/-- What @main returns on predictions `x`, ground truth `g` and class weights `w`. -/
def outV (x g : FVec F S16384x32 .f32) (w : FVec F S32 .f32) : FVec F S_ .f32 :=
  shapeCast S_ (combOut (cceOut x g (wrow w)) (parts (table x) (table g)) (wrow w)) shapeCasts_S1x1_S_

abbrev op0 : HloOp τ sig (Elt F) := StableHlo.reshape main_arg2 main_v0 (rfl : (.f32 : EltTy) = .f32) shapeCasts_S32_S1x32
abbrev op2 : HloOp τ sig (Elt F) := StableHlo.unary main_arg0 main_v2 ((transpose S32x16384 [1, 0] · transposes_S16384x32_S32x16384_1_0) : (⟨S16384x32, .f32⟩ : BufTy).Contents (Elt F) → (⟨S32x16384, .f32⟩ : BufTy).Contents (Elt F))
abbrev op3 : HloOp τ sig (Elt F) := StableHlo.reshape main_v2 main_v3 (rfl : (.f32 : EltTy) = .f32) shapeCasts_S32x16384_S524288
abbrev op4 : HloOp τ sig (Elt F) := StableHlo.unary main_arg1 main_v4 ((transpose S32x16384 [1, 0] · transposes_S16384x32_S32x16384_1_0) : (⟨S16384x32, .f32⟩ : BufTy).Contents (Elt F) → (⟨S32x16384, .f32⟩ : BufTy).Contents (Elt F))
abbrev op5 : HloOp τ sig (Elt F) := StableHlo.reshape main_v4 main_v5 (rfl : (.f32 : EltTy) = .f32) shapeCasts_S32x16384_S524288
abbrev op8 : HloOp τ sig (Elt F) := StableHlo.reshape main_v7 main_v8 (rfl : (.f32 : EltTy) = .f32) shapeCasts_S1x1_S_

abbrev Vl (F : FTy → Type) : Type := Valuation τ sig (Elt F)
/-- A TensorCore reference as a device buffer. -/
abbrev tb (b : Ref sig .tc) : DevRef τ sig := Proc.devRef .tc b

/-- The buffers of one device seen from its TensorCore. -/
abbrev tcv (W : Dev nD → Vl F) : Vals F := fun d b => W d (tb b)

/-- The buffers after one more write of `v` to `r`. -/
def put (W : Vl F) (r : Ref sig .tc) (v : r.ty.Contents (Elt F)) : Vl F := Function.update W (tb r) v

omit [FloatOps F] in
theorem put_same (W : Vl F) (r : Ref sig .tc) (v : r.ty.Contents (Elt F)) : put W r v (tb r) = v := Function.update_self ..
omit [FloatOps F] in
theorem put_ne (W : Vl F) (r : Ref sig .tc) (v : r.ty.Contents (Elt F)) {b : Ref sig .tc} (h : b ≠ r) : put W r v (tb b) = W (tb b) :=
  Function.update_of_ne (fun e => h (Proc.devRef_injective _ e)) ..

variable (m : (ℓ : Loc nD τ sig) → Buf (Elt F) ℓ) (ρ : Dev nD → PrngReg)

def W0 (d : Dev nD) : Vl F := fun b => m (d, b)
def W1 (d : Dev nD) : Vl F := op0.result (W0 m d)
def W2 (d : Dev nD) : Vl F := put (W1 m d) main_v1 (cceOut (W1 m d (tb main_arg0)) (W1 m d (tb main_arg1)) (W1 m d (tb main_v0)))
def W3 (d : Dev nD) : Vl F := op2.result (W2 m d)
def W4 (d : Dev nD) : Vl F := op3.result (W3 m d)
def W5 (d : Dev nD) : Vl F := op4.result (W4 m d)
def W6 (d : Dev nD) : Vl F := op5.result (W5 m d)
def W7 (d : Dev nD) : Vl F := put (W6 m d) main_v6 (parts (W6 m d (tb main_v3)) (W6 m d (tb main_v5)))
def W8 (d : Dev nD) : Vl F := put (W7 m d) main_v7 (combOut (W7 m d (tb main_v1)) (W7 m d (tb main_v6)) (W7 m d (tb main_v0)))
def W9 (d : Dev nD) : Vl F := op8.result (W8 m d)

/-! ## The values at the end -/

theorem w1 (d : Dev nD) : W1 m d (tb main_arg0) = m (d, tb main_arg0) ∧ W1 m d (tb main_arg1) = m (d, tb main_arg1) ∧ W1 m d (tb main_arg2) = m (d, tb main_arg2)
    ∧ W1 m d (tb main_v0) = wrow (m (d, tb main_arg2)) := by
  unfold W1
  refine ⟨?_, ?_, ?_, ?_⟩
  · exact StableHlo.reshape_result_ne' _ _ _ _ _ (by decide)
  · exact StableHlo.reshape_result_ne' _ _ _ _ _ (by decide)
  · exact StableHlo.reshape_result_ne' _ _ _ _ _ (by decide)
  · exact StableHlo.reshape_result' _ _ _ _ _

theorem w6 (d : Dev nD) : W6 m d (tb main_arg0) = m (d, tb main_arg0) ∧ W6 m d (tb main_arg1) = m (d, tb main_arg1) ∧ W6 m d (tb main_arg2) = m (d, tb main_arg2)
    ∧ W6 m d (tb main_v0) = wrow (m (d, tb main_arg2)) ∧ W6 m d (tb main_v1) = cceOut (m (d, tb main_arg0)) (m (d, tb main_arg1)) (wrow (m (d, tb main_arg2)))
    ∧ W6 m d (tb main_v3) = table (m (d, tb main_arg0)) ∧ W6 m d (tb main_v5) = table (m (d, tb main_arg1)) := by
  obtain ⟨h0, h1, h2, h3⟩ := w1 m d
  have g0 : W2 m d (tb main_arg0) = m (d, tb main_arg0) := (put_ne _ _ _ (by decide)).trans h0
  have g1 : W2 m d (tb main_arg1) = m (d, tb main_arg1) := (put_ne _ _ _ (by decide)).trans h1
  have g2 : W2 m d (tb main_arg2) = m (d, tb main_arg2) := (put_ne _ _ _ (by decide)).trans h2
  have g3 : W2 m d (tb main_v0) = wrow (m (d, tb main_arg2)) := (put_ne _ _ _ (by decide)).trans h3
  have g4 : W2 m d (tb main_v1) = cceOut (m (d, tb main_arg0)) (m (d, tb main_arg1)) (wrow (m (d, tb main_arg2))) :=
    (put_same _ _ _).trans (by rw [h0, h1, h3])
  have pass {b : Ref sig .tc} (b2 : b ≠ main_v2) (b3 : b ≠ main_v3) (b4 : b ≠ main_v4) (b5 : b ≠ main_v5) : W6 m d (tb b) = W2 m d (tb b) :=
    (StableHlo.reshape_result_ne' _ _ _ _ _ b5).trans ((StableHlo.unary_result_ne' _ _ _ _ b4).trans
      ((StableHlo.reshape_result_ne' _ _ _ _ _ b3).trans (StableHlo.unary_result_ne' _ _ _ _ b2)))
  refine ⟨(pass (by decide) (by decide) (by decide) (by decide)).trans g0, (pass (by decide) (by decide) (by decide) (by decide)).trans g1,
    (pass (by decide) (by decide) (by decide) (by decide)).trans g2, (pass (by decide) (by decide) (by decide) (by decide)).trans g3,
    (pass (by decide) (by decide) (by decide) (by decide)).trans g4, ?_, ?_⟩
  · have e3 : W3 m d (tb main_v2) = transpose S32x16384 [1, 0] (m (d, tb main_arg0)) transposes_S16384x32_S32x16384_1_0 :=
      (StableHlo.unary_result' _ _ _ _).trans (congrArg (transpose S32x16384 [1, 0] · transposes_S16384x32_S32x16384_1_0) g0)
    have e4 : W4 m d (tb main_v3) = table (m (d, tb main_arg0)) :=
      (StableHlo.reshape_result' _ _ _ _ _).trans (congrArg (shapeCast S524288 · shapeCasts_S32x16384_S524288) e3)
    exact (StableHlo.reshape_result_ne' _ _ _ _ _ (by decide)).trans ((StableHlo.unary_result_ne' _ _ _ _ (by decide)).trans e4)
  · have g1' : W4 m d (tb main_arg1) = m (d, tb main_arg1) :=
      (StableHlo.reshape_result_ne' _ _ _ _ _ (by decide)).trans ((StableHlo.unary_result_ne' _ _ _ _ (by decide)).trans g1)
    have e5 : W5 m d (tb main_v4) = transpose S32x16384 [1, 0] (m (d, tb main_arg1)) transposes_S16384x32_S32x16384_1_0 :=
      (StableHlo.unary_result' _ _ _ _).trans (congrArg (transpose S32x16384 [1, 0] · transposes_S16384x32_S32x16384_1_0) g1')
    exact (StableHlo.reshape_result' _ _ _ _ _).trans (congrArg (shapeCast S524288 · shapeCasts_S32x16384_S524288) e5)

/-- The three arguments end as they began, and the result is `outV` of them. -/
theorem w9 (d : Dev nD) : W9 m d (tb main_arg0) = m (d, tb main_arg0) ∧ W9 m d (tb main_arg1) = m (d, tb main_arg1) ∧ W9 m d (tb main_arg2) = m (d, tb main_arg2)
    ∧ W9 m d (tb main_v8) = outV (m (d, tb main_arg0)) (m (d, tb main_arg1)) (m (d, tb main_arg2)) := by
  obtain ⟨h0, h1, h2, h3, h4, h5, h6⟩ := w6 m d
  have pass {b : Ref sig .tc} (b6 : b ≠ main_v6) (b7 : b ≠ main_v7) (b8 : b ≠ main_v8) : W9 m d (tb b) = W6 m d (tb b) :=
    (StableHlo.reshape_result_ne' _ _ _ _ _ b8).trans ((put_ne _ _ _ b7).trans (put_ne _ _ _ b6))
  refine ⟨(pass (by decide) (by decide) (by decide)).trans h0, (pass (by decide) (by decide) (by decide)).trans h1,
    (pass (by decide) (by decide) (by decide)).trans h2, ?_⟩
  have k0 : W7 m d (tb main_v0) = wrow (m (d, tb main_arg2)) := (put_ne _ _ _ (by decide)).trans h3
  have k1 : W7 m d (tb main_v1) = cceOut (m (d, tb main_arg0)) (m (d, tb main_arg1)) (wrow (m (d, tb main_arg2))) := (put_ne _ _ _ (by decide)).trans h4
  have k6 : W7 m d (tb main_v6) = parts (table (m (d, tb main_arg0))) (table (m (d, tb main_arg1))) := (put_same _ _ _).trans (by rw [h5, h6])
  have k7 : W8 m d (tb main_v7) = combOut (cceOut (m (d, tb main_arg0)) (m (d, tb main_arg1)) (wrow (m (d, tb main_arg2))))
      (parts (table (m (d, tb main_arg0))) (table (m (d, tb main_arg1)))) (wrow (m (d, tb main_arg2))) :=
    (put_same _ _ _).trans (by rw [k0, k1, k6])
  exact (StableHlo.reshape_result' _ _ _ _ _).trans (congrArg (shapeCast S_ · shapeCasts_S1x1_S_) k7)

/-! ## The steps of @main -/

abbrev PM : (K (F := F)).Pay (nD := nD) (Val := Elt F) (Name := ℕ) (U := UU) :=
  PY (fun d => W6 m d (tb main_v3)) (fun d => W6 m d (tb main_v5)) (fun d => W6 m d (tb main_v6))

/-- All buffers of a device's TensorCore that outlive a region, at `W`. -/
abbrev hold (d : Dev nD) (W : Vl F) : sProp 𝕄 := held (d.tc : Thread nD τ) (Pipeline.ucRefs τ sig) W

/-- The three buffers of the histogram call. -/
abbrev three : Finset (DevRef τ sig) := {tb main_v3, tb main_v5, tb main_v6}

theorem three_sub : three ⊆ Pipeline.ucRefs τ sig := by decide

theorem sub0 : (op0 (F := F)).bufs ⊆ Pipeline.ucRefs τ sig := show ({tb main_arg2, tb main_v0} : Finset (DevRef τ sig)) ⊆ Pipeline.ucRefs τ sig by decide
theorem sub2 : (op2 (F := F)).bufs ⊆ Pipeline.ucRefs τ sig := show ({tb main_arg0, tb main_v2} : Finset (DevRef τ sig)) ⊆ Pipeline.ucRefs τ sig by decide
theorem sub3 : (op3 (F := F)).bufs ⊆ Pipeline.ucRefs τ sig := show ({tb main_v2, tb main_v3} : Finset (DevRef τ sig)) ⊆ Pipeline.ucRefs τ sig by decide
theorem sub4 : (op4 (F := F)).bufs ⊆ Pipeline.ucRefs τ sig := show ({tb main_arg1, tb main_v4} : Finset (DevRef τ sig)) ⊆ Pipeline.ucRefs τ sig by decide
theorem sub5 : (op5 (F := F)).bufs ⊆ Pipeline.ucRefs τ sig := show ({tb main_v4, tb main_v5} : Finset (DevRef τ sig)) ⊆ Pipeline.ucRefs τ sig by decide
theorem sub8 : (op8 (F := F)).bufs ⊆ Pipeline.ucRefs τ sig := show ({tb main_v7, tb main_v8} : Finset (DevRef τ sig)) ⊆ Pipeline.ucRefs τ sig by decide

theorem held_three (d : Dev nD) (W : Vl F) : (held (d.tc : Thread nD τ) three W : sProp 𝕄)
    = iprop((xLoc d ↦{fullShare} W (tb main_v3)) ∗ (gLoc d ↦{fullShare} W (tb main_v5)) ∗ (oLoc d ↦{fullShare} W (tb main_v6))) := by
  unfold held three
  rw [SparseCore.bigSep_insert' (by decide), SparseCore.bigSep_insert' (by decide), bigSep_singleton]

theorem rest_eq (d : Dev nD) : (held (d.tc : Thread nD τ) (Pipeline.ucRefs τ sig \ three) (W7 m d) : sProp 𝕄)
    = held (d.tc : Thread nD τ) (Pipeline.ucRefs τ sig \ three) (W6 m d) := by
  unfold held
  refine bigSep_congr fun b hb => ?_
  have hne : b ≠ tb main_v6 := by
    rintro rfl
    exact (Finset.mem_sdiff.mp hb).2 (by decide)
  rw [show W7 m d b = W6 m d b from Function.update_of_ne hne ..]

theorem W7_v3 (d : Dev nD) : W7 m d (tb main_v3) = W6 m d (tb main_v3) := put_ne _ _ _ (by decide)
theorem W7_v5 (d : Dev nD) : W7 m d (tb main_v5) = W6 m d (tb main_v5) := put_ne _ _ _ (by decide)
theorem W7_v6 (d : Dev nD) : W7 m d (tb main_v6) = parts (W6 m d (tb main_v3)) (W6 m d (tb main_v5)) := put_same _ _ _

theorem Otc_none (d : Dev nD) (n : ℕ) (g : GSem nD τ sig) : (K (F := F)).Otc (N := 1) d n g none = 0 := by
  by_contra h
  have := (K (F := F)).lev_of_Otc_pos (Nat.pos_of_ne_zero h)
  rw [SparseCore.Cfg.lev_none] at this
  omega

/-- What a TensorCore may have waited on before call `n`. -/
def below (d : Dev nD) (n : ℕ) : Set (SemLoc sig × HIx 1) := {p | (K (F := F)).lev (SparseCore.T d, p.1) p.2 ≤ 8 * SparseCore.Cfg.Blocks.fst (Q := 1) (N := 1) n}

theorem below_none (d : Dev nD) (n : ℕ) (s : SemLoc sig) : (s, (none : HIx 1)) ∈ below (F := F) d n := Nat.zero_le _

/-- A TensorCore call, run from all buffers at one valuation to all buffers at another, under the state a TensorCore
    is in before call `n` of the SparseCores. -/
theorem region_step (p : Fin 2) (d : Dev nD) (n : ℕ) (Wa Wb : Vl F) {pd : (q : Fin 2) → (c : Dev nD) → Pipeline.Dat τ (Elt F) (HIx 1) ℕ UU ℕ (pins (F := F) q) c}
    (R : Pipeline.RegionSeg (pcfgs (F := F)) adm pd none defs₀ 𝒱₀ (K (F := F)).L (K (F := F)).lev p)
    (hpre : R.pre d = (iprop(unscopedBufs d (fun b => Wa (tb b)) ∗ ∃ W, ⌜∀ p ∈ W, p ∈ below (F := F) d n⌝ ∗ owes (d.tc : Thread nD τ) ((K (F := F)).Otc d n) W) : sProp 𝕄))
    (hpost : R.post d = (iprop(unscopedBufs d (fun b => Wb (tb b)) ∗ ∃ W, ⌜∀ p ∈ W, p ∈ below (F := F) d n⌝ ∗ owes (d.tc : Thread nD τ) ((K (F := F)).Otc d n) W) : sProp 𝕄))
    (Q : PUnit → sProp 𝕄) :
    (iprop(levAts (K (F := F)).L (K (F := F)).lev ∗ boundary (d.tc : Thread nD τ) ∗ (K (F := F)).tcSt EH d n ∗ hold d Wa
        ∗ Pipeline.cellsGhost (pins (F := F)) EP p d ∗ Pipeline.toksInit (pins (F := F)) EP p d
        ∗ ((boundary (d.tc : Thread nD τ) ∗ (K (F := F)).tcSt EH d n ∗ hold d Wb) -∗ Q ⟨⟩)) : sProp 𝕄)
      ⊢ wp frame (wpE ((K (F := F)).defs (D (F := F))) 𝒱 (SparseCore.T d) none) Set.univ
          (Prog.lift (.customCall (SparseCore.inner (Pipeline.entry p)) ())) Q := by
  show _ ⊢ wp frame (wpE ((K (F := F)).defs (D (F := F))) 𝒱 (SparseCore.T d) none) Set.univ (SparseCore.liftProg (.op (.customCall (Pipeline.entry p) ()) .ret)) Q
  unfold SparseCore.Cfg.tcSt
  iintro ⟨#Hlv, Hb, ⟨⟨%W, %hW, HO⟩, Hrest⟩, HH, Hc, Ht, Hk⟩
  iapply ((K (F := F)).wp_liftProg (D (F := F)) 𝒱 (SparseCore.T d) Set.univ none (.op (.customCall (Pipeline.entry p) ()) .ret) Q)
  iapply (Pipeline.RegionSeg.wp (pcfgs (F := F)) adm pd none pins_inj EP defs₀ 𝒱₀ (K (F := F)).L (K (F := F)).lev R d none (fun _ h => absurd h (by simp)) .ret Q)
  isplitl [Hrest Hk]
  · rw [hpost]
    iintro ⟨Hb, HU, %W', %hW', HO⟩
    rw [wp_ret]; imodintro
    iapply Hk
    isplitl [Hb]; · iexact Hb
    isplitl [HO Hrest]
    · isplitl [HO]
      · iexists W'; isplitr
        · ipureintro; exact fun p hp => hW' p hp
        · iexact HO
      iexact Hrest
    ihave H := (Entails.of_eq (Pipeline.unscopedBufs_held d Wb)) $$ HU
    iexact H
  isplitl [Hb]; · iexact Hb
  isplitl [HH HO]
  · rw [hpre]
    isplitl [HH]
    · ihave H := (Entails.of_eq (Pipeline.unscopedBufs_held d Wa).symm) $$ HH
      iexact H
    iexists W; isplitr
    · ipureintro; exact fun p hp => hW p hp
    · iexact HO
  isplitr; · iexact Hlv
  isplitl [Hc]; · iexact Hc
  iexact Ht

theorem join7 (d : Dev nD) : (iprop(((xLoc d ↦{fullShare} W6 m d (tb main_v3)) ∗ (gLoc d ↦{fullShare} W6 m d (tb main_v5))
        ∗ (oLoc d ↦{fullShare} parts (W6 m d (tb main_v3)) (W6 m d (tb main_v5))))
      ∗ held (d.tc : Thread nD τ) (Pipeline.ucRefs τ sig \ three) (W6 m d)) : sProp 𝕄) = hold d (W7 m d) := by
  rw [show hold d (W7 m d) = _ from StableHlo.held_sub_split (d.tc : Thread nD τ) three_sub (W7 m d), held_three, rest_eq, W7_v3, W7_v5, W7_v6]

/-- The two TensorCore calls of @main. -/
abbrev R0 (d : Dev nD) := reg0 (tcv (W1 m)) (tcv (W2 m)) ((K (F := F)).Otc (N := 1) d 0) (Otc_none d 0) (below (F := F) d 0) (below_none d 0)
  (fun d => put_same _ _ _) (fun d b h => put_ne _ _ _ h)
abbrev R2 (d : Dev nD) := reg2 (tcv (W7 m)) (tcv (W8 m)) ((K (F := F)).Otc (N := 1) d 1) (Otc_none d 1) (below (F := F) d 1) (below_none d 1)
  (fun d => put_same _ _ _) (fun d b h => put_ne _ _ _ h)

/-- What @main keeps to the end: every buffer at its last contents. -/
abbrev FIN (d : Dev nD) : sProp 𝕄 := hold d (W9 m d)

theorem hmain (κ : GSem nD τ sig → ℕ) (d : Dev nD) :
    (iprop((K (F := F)).ctx EH (PM m) κ ∗ (K (F := F)).tcSt EH d 0 ∗ (K (F := F)).tcRes m ρ d ∗ pghost (F := F) d) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, HU, Hts, -⟩, ⟨Hc, Ht⟩⟩
  ihave #Hlv := ((K (F := F)).ctx_levAts κ) $$ Hctx
  ihave HH := (Entails.of_eq (show (unscopedBufs d (fun b => m ((SparseCore.T d : Thread nD τ).loc b)) : sProp 𝕄) = hold d (W0 m d) from Pipeline.unscopedBufs_held d (W0 m d))) $$ HU
  ihave Hc := (Entails.of_eq (show (bigSep Finset.univ fun p => Pipeline.cellsGhost (pins (F := F)) EP p d) = (iprop(Pipeline.cellsGhost (pins (F := F)) EP 0 d ∗ Pipeline.cellsGhost (pins (F := F)) EP 1 d) : sProp 𝕄) from bigSep_univ_two _)) $$ Hc
  icases Hc with ⟨Hc0, Hc1⟩
  ihave Ht := (Entails.of_eq (show (bigSep Finset.univ fun p => Pipeline.toksInit (pins (F := F)) EP p d) = (iprop(Pipeline.toksInit (pins (F := F)) EP 0 d ∗ Pipeline.toksInit (pins (F := F)) EP 1 d) : sProp 𝕄) from bigSep_univ_two _)) $$ Ht
  icases Ht with ⟨Ht0, Ht1⟩
  iapply (wp_hlo_within 𝒱 (SparseCore.T d) none Set.univ (op := op0 (F := F)) sub0 (V := W0 m d)) $$ [Hb HH]
  · isplitl [Hb]; · iexact Hb
    iexact HH
  iintro ⟨Hb, HH⟩
  rw [wp_ret]; imodintro
  iapply (region_step 0 d 0 (W1 m d) (W2 m d) (R0 m d) rfl rfl)
  isplitr; · iexact Hlv
  isplitl [Hb]; · iexact Hb
  isplitl [Hst]; · iexact Hst
  isplitl [HH]; · iexact HH
  isplitl [Hc0]; · iexact Hc0
  isplitl [Ht0]; · iexact Ht0
  iintro ⟨Hb, Hst, HH⟩
  iapply (wp_hlo_within 𝒱 (SparseCore.T d) none Set.univ (op := op2 (F := F)) sub2 (V := W2 m d)) $$ [Hb HH]
  · isplitl [Hb]; · iexact Hb
    iexact HH
  iintro ⟨Hb, HH⟩
  rw [wp_ret]; imodintro
  iapply (wp_hlo_within 𝒱 (SparseCore.T d) none Set.univ (op := op3 (F := F)) sub3 (V := W3 m d)) $$ [Hb HH]
  · isplitl [Hb]; · iexact Hb
    iexact HH
  iintro ⟨Hb, HH⟩
  rw [wp_ret]; imodintro
  iapply (wp_hlo_within 𝒱 (SparseCore.T d) none Set.univ (op := op4 (F := F)) sub4 (V := W4 m d)) $$ [Hb HH]
  · isplitl [Hb]; · iexact Hb
    iexact HH
  iintro ⟨Hb, HH⟩
  rw [wp_ret]; imodintro
  iapply (wp_hlo_within 𝒱 (SparseCore.T d) none Set.univ (op := op5 (F := F)) sub5 (V := W5 m d)) $$ [Hb HH]
  · isplitl [Hb]; · iexact Hb
    iexact HH
  iintro ⟨Hb, HH⟩
  rw [wp_ret]; imodintro
  ihave HH := (Entails.of_eq (show (held (SparseCore.T d : Thread nD τ) (Pipeline.ucRefs τ sig) (op5.result (W5 m d)) : sProp 𝕄) = _ from (StableHlo.held_sub_split (d.tc : Thread nD τ) three_sub (W6 m d)).trans (congrArg (fun A => iprop(A ∗ held (d.tc : Thread nD τ) (Pipeline.ucRefs τ sig \ three) (W6 m d))) (held_three d (W6 m d))))) $$ HH
  icases HH with ⟨⟨Hx, Hg, Ho⟩, Hrest⟩
  iapply ((K (F := F)).wp_run (D (F := F)) 𝒱 (EH := EH) (P := PM m) κ d 0)
  isplitr; · iexact Hctx
  isplitl [Hst]; · iexact Hst
  isplitl [Hx Hg Ho]
  · rw [st0_eq]
    isplitl [Hx]; · iexact Hx
    isplitl [Hg]; · iexact Hg
    iexact Ho
  iintro ⟨Hst, Hdn⟩
  ihave Hdn := (Entails.of_eq (dn0_eq _ _ _ d)) $$ Hdn
  ihave HH := (Entails.of_eq (join7 m d)) $$ [Hdn Hrest]
  · isplitl [Hdn] <;> iassumption
  iapply (region_step 1 d 1 (W7 m d) (W8 m d) (R2 m d) rfl rfl)
  isplitr; · iexact Hlv
  isplitl [Hb]; · iexact Hb
  isplitl [Hst]; · iexact Hst
  isplitl [HH]; · iexact HH
  isplitl [Hc1]; · iexact Hc1
  isplitl [Ht1]; · iexact Ht1
  iintro ⟨Hb, Hst, HH⟩
  iapply (wp_hlo_within 𝒱 (SparseCore.T d) none Set.univ (op := op8 (F := F)) sub8 (V := W8 m d)) $$ [Hb HH]
  · isplitl [Hb]; · iexact Hb
    iexact HH
  iintro ⟨Hb, HH⟩
  rw [wp_ret]; imodintro
  imodintro
  isplitl [Hst]; · iexact Hst
  isplitl [HH]; · iexact HH
  isplitl [Hb] <;> iassumption

/-! ## The program's run -/

theorem hold_agree (d : Dev nD) (W : Vl F) (s' : Phys nD τ sig (Elt F)) {b : DevRef τ sig} (hb : b ∈ Pipeline.ucRefs τ sig) :
    iprop(hold d W ∗ SI s') ⊢ (⌜s'.mem.mem (d, b) = W b⌝ : sProp 𝕄) := by
  unfold hold held
  rw [SparseCore.bigSep_erase' hb]
  iintro ⟨⟨Hb, -⟩, HSI⟩
  ihave H := (SI_pointsTo_agree (st := s') (ℓ := ((d, b) : Loc nD τ sig)) (I := Finset.univ) (q := fullShare) (f := W b)) $$ [HSI Hb]
  · isplitl [HSI] <;> iassumption
  icases H with %h
  ipureintro; exact funext fun i => h i (Finset.mem_univ i)

def fq (d : Dev nD) (s' : Phys nD τ sig (Elt F)) : Prop :=
  s'.mem.mem (d, tb main_v8) = W9 m d (tb main_v8) ∧ s'.mem.mem (d, tb main_arg0) = W9 m d (tb main_arg0)
    ∧ s'.mem.mem (d, tb main_arg1) = W9 m d (tb main_arg1) ∧ s'.mem.mem (d, tb main_arg2) = W9 m d (tb main_arg2)

theorem hfin (d : Dev nD) (s' : Phys nD τ sig (Elt F)) : iprop(FIN m d ∗ SI s') ⊢ (⌜fq m d s'⌝ : sProp 𝕄) := by
  iintro H
  ihave H := (persistent_entails_right (hold_agree d (W9 m d) s' (b := tb main_v8) (by decide))) $$ H
  icases H with ⟨%h8, H⟩
  ihave H := (persistent_entails_right (hold_agree d (W9 m d) s' (b := tb main_arg0) (by decide))) $$ H
  icases H with ⟨%h0, H⟩
  ihave H := (persistent_entails_right (hold_agree d (W9 m d) s' (b := tb main_arg1) (by decide))) $$ H
  icases H with ⟨%h1, H⟩
  ihave H := (persistent_entails_right (hold_agree d (W9 m d) s' (b := tb main_arg2) (by decide))) $$ H
  icases H with ⟨%h2, -⟩
  ipureintro; exact ⟨h8, h0, h1, h2⟩

/-- The memory the program ends in: the arguments as they were, the result `outV` of them, every semaphore zero. -/
def QC : PUnit × MemSt nD τ sig (Elt F) → Prop := fun r =>
  (∀ c : Dev nD, r.2.mem (c, tb main_v8) = outV (m (c, tb main_arg0)) (m (c, tb main_arg1)) (m (c, tb main_arg2))
    ∧ r.2.mem (c, tb main_arg0) = m (c, tb main_arg0) ∧ r.2.mem (c, tb main_arg1) = m (c, tb main_arg1) ∧ r.2.mem (c, tb main_arg2) = m (c, tb main_arg2))
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main (fun d => pghost (F := F) d) (FIN m) (u₀ (F := F)) (sep_elim_left.trans (hu₀ _ _ _)) (hmain m ρ) (fq m) (hfin m) (QC m)
    (fun r h hz => ⟨fun c => by
      obtain ⟨h0, h1, h2, h8⟩ := w9 m c
      exact ⟨(h c).1.trans h8, (h c).2.1.trans h0, (h c).2.2.1.trans h1, (h c).2.2.2.trans h2⟩, hz⟩)

end Run

end Cert.Proof.Hist

end
-- ==== Proof.RefRun.lean ====
/-
  The reference's run: its @main is one line of tensor operations, cut here into stretches, each read as the value it
  leaves in terms of the buffers it starts from.
-/
module

public import proofs.«01_k».proof.Defs
public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

/-! ## The values -/

/-- A row's maximum from minus infinity, spread over the row. -/
def rowMax (x : FVec F S16384x32 .f32) : FVec F S16384x32 .f32 :=
  broadcastInDim S16384x32 ![0, 1] bcast_S16384x1_S16384x32_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x32_S16384_d1 h_S_)))

/-- A row's sum, as a column. -/
def rowSum (x : FVec F S16384x32 .f32) : FVec F S16384x1 .f32 :=
  broadcastInDim S16384x1 ![0] bcast_S16384_S16384x1_0
    (Host.reduceAdd x (constant S_ .f32 0x00000000#32) reducesTo_S16384x32_S16384_d1 h_S_)

/-- The softmax of every row. -/
def soft (x : FVec F S16384x32 .f32) : FVec F S16384x32 .f32 :=
  Host.divf (Host.exp (subf x (rowMax x)))
    (broadcastInDim S16384x32 ![0, 1] bcast_S16384x1_S16384x32_0_1 (rowSum (Host.exp (subf x (rowMax x)))))

/-- The logarithm of the softmax from rows already centred. -/
def logOf (z : FVec F S16384x32 .f32) : FVec F S16384x32 .f32 :=
  subf z (broadcastInDim S16384x32 ![0, 1] bcast_S16384x1_S16384x32_0_1 (Host.log (rowSum (Host.exp z))))

/-- The logarithm of the softmax of every row. -/
def logSoft (x : FVec F S16384x32 .f32) : FVec F S16384x32 .f32 := logOf (subf x (rowMax x))

/-- The place of every row's first maximum. -/
def amax (x : FVec F S16384x32 .f32) : IVec S16384 32 :=
  fun j => (Host.argReduce reducer_argmax_f32_i32 x (iotaInDim S16384x32 32 1) (constant S_ .f32 0xFF800000#32)
    (constantI S_ 32 0#32) reducesTo_S16384x32_S16384_d1 h_S_ j).2

/-- Negative indices counted from the end, as a column. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 32#32))) i)

/-- The confusion matrix: truth down, prediction across. -/
def conf (g p : IVec S16384 32) : FVec F S32x32 .f32 :=
  Host.scatterAdd scatter_S32x32_S16384x2_S16384_n_01_01_1
    (broadcastInDim S32x32 ![] bcast_S_S32x32 (constant S_ .f32 0x00000000#32))
    (concatenate S16384x2 1 [⟨S16384x1, wrapped g⟩, ⟨S16384x1, wrapped p⟩] concatenates_S16384x1_S16384x1_S16384x2_d1)
    (broadcastInDim S16384 ![] bcast_S_S16384 (constant S_ .f32 0x3F800000#32))

/-- The diagonal's mask. -/
def eye : IVec S32x32 1 :=
  cmpi .eq
    (broadcastInDim S32x32 ![0, 1] bcast_S32x1_S32x32_0_1 (broadcastInDim S32x1 ![0] bcast_S32_S32x1_0 (iotaInDim S32 32 0)))
    (broadcastInDim S32x32 ![0, 1] bcast_S1x32_S32x32_0_1 (broadcastInDim S1x32 ![1] bcast_S32_S1x32_1 (iotaInDim S32 32 0)))

/-- The true positives of every class. -/
def tps (c : FVec F S32x32 .f32) : FVec F S32 .f32 :=
  Host.reduceAdd (select eye c (broadcastInDim S32x32 ![] bcast_S_S32x32 (constant S_ .f32 0x00000000#32)))
    (constant S_ .f32 0x00000000#32) reducesTo_S32x32_S32_d0 h_S_

/-- The false positives of every class. -/
def fps (c : FVec F S32x32 .f32) : FVec F S32 .f32 :=
  subf (Host.reduceAdd c (constant S_ .f32 0x00000000#32) reducesTo_S32x32_S32_d0 h_S_) (tps c)

/-- The false negatives of every class. -/
def fns (c : FVec F S32x32 .f32) : FVec F S32 .f32 :=
  subf (Host.reduceAdd c (constant S_ .f32 0x00000000#32) reducesTo_S32x32_S32_d1 h_S_) (tps c)

/-- A number at every class. -/
def each (b : BitVec 32) : FVec F S32 .f32 := broadcastInDim S32 ![] bcast_S_S32 (constant S_ .f32 b)

/-- The Tversky index of every class from its true positives, weighted false positives, and false negatives. -/
def tver (tp fp fn : FVec F S32 .f32) : FVec F S32 .f32 :=
  Host.divf (addf tp (each 0x322BCC77#32))
    (addf (addf (addf tp (mulf fp (each 0x3E99999A#32))) (mulf fn (each 0x3F333333#32))) (each 0x322BCC77#32))

/-- The focal power of what is left to one, weighted and summed over the classes. -/
def focal (t w : FVec F S32 .f32) : FVec F S_ .f32 :=
  Host.reduceAdd (mulf (Host.powf (subf (each 0x3F800000#32) t) (each 0x3F400000#32)) w)
    (constant S_ .f32 0x00000000#32) reducesTo_S32_S_d0 h_S_

/-- The weights of every sample's class, summed. -/
def wsum (g : IVec S16384 32) (w : FVec F S32 .f32) : FVec F S_ .f32 :=
  Host.reduceAdd (Host.gather gather_S32_S16384x1_S16384_n_0_n_n_0_1_1 w (wrapped g))
    (constant S_ .f32 0x00000000#32) reducesTo_S16384_S_d0 h_S_

/-- The mean over the samples of the weighted cross-entropy, from the logarithms `l`. -/
def cceMean (l g : FVec F S16384x32 .f32) (w : FVec F S32 .f32) : FVec F S_ .f32 :=
  Host.divf (Host.reduceAdd (Host.negf (Host.reduceAdd
      (mulf (mulf (broadcastInDim S16384x32 ![0, 1] bcast_S1x32_S16384x32_0_1 (broadcastInDim S1x32 ![1] bcast_S32_S1x32_1 w)) g)
        l)
      (constant S_ .f32 0x00000000#32) reducesTo_S16384x32_S16384_d1 h_S_))
    (constant S_ .f32 0x00000000#32) reducesTo_S16384_S_d0 h_S_) (constant S_ .f32 0x46800000#32)

/-- The loss from the cross-entropy's mean and the Tversky part. -/
def total (c t : FVec F S_ .f32) : FVec F S_ .f32 :=
  addf (mulf c (constant S_ .f32 0x3DCCCCCD#32)) (mulf t (constant S_ .f32 0x3F800000#32))

/-- What the reference computes. -/
def out (x y : FVec F S16384x32 .f32) (w : FVec F S32 .f32) : FVec F S_ .f32 :=
  let c := conf (amax y) (amax (soft x))
  total (cceMean (logSoft (soft x)) y w) (Host.divf (focal (tver (tps c) (fps c) (fns c)) w) (wsum (amax y) w))

/-! ## The operations -/

/-- Statements 1 to 14 of @main, the calls unfolded. -/
abbrev softOps : List (HloOp τ sig (Elt F)) :=
  [ nullary main_cst (constant S_ .f32 0xFF800000#32),
    binary main_arg0 main_cst main_v0 ((fun x v => Host.reduce FloatOps.maximumf x v reducesTo_S16384x32_S16384_d1 h_S_) : (⟨S16384x32, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x32 ![0, 1] bcast_S16384x1_S16384x32_0_1 : (⟨S16384x1, .f32⟩ : BufTy).Contents (Elt F) → (⟨S16384x32, .f32⟩ : BufTy).Contents (Elt F)),
    binary main_arg0 main_v4 main_v5 (subf : (⟨S16384x32, .f32⟩ : BufTy).Contents (Elt F) → (⟨S16384x32, .f32⟩ : BufTy).Contents (Elt F) → (⟨S16384x32, .f32⟩ : BufTy).Contents (Elt F)),
    unary main_v5 main_v6 (Host.exp : (⟨S16384x32, .f32⟩ : BufTy).Contents (Elt F) → (⟨S16384x32, .f32⟩ : BufTy).Contents (Elt F)),
    nullary main_cst_1 (constant S_ .f32 0x00000000#32),
    binary main_v6 main_cst_1 main_v7 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x32 ![0, 1] bcast_S16384x1_S16384x32_0_1 : (⟨S16384x1, .f32⟩ : BufTy).Contents (Elt F) → (⟨S16384x32, .f32⟩ : BufTy).Contents (Elt F)),
    binary main_v6 main_v9 main_v10 (Host.divf : (⟨S16384x32, .f32⟩ : BufTy).Contents (Elt F) → (⟨S16384x32, .f32⟩ : BufTy).Contents (Elt F) → (⟨S16384x32, .f32⟩ : BufTy).Contents (Elt F)) ]

/-- Statements 15 to 24 of @main, the calls unfolded. -/
abbrev argsOps : List (HloOp τ sig (Elt F)) :=
  [ TRef.nullary main_call0.v0 (iotaInDim S16384x32 32 1),
    TRef.nullary main_call0.cst (constant S_ .f32 0xFF800000#32),
    TRef.nullary main_call0.c (constantI S_ 32 0#32),
    TRef.quaternary (.of main_v10 : TRef sig ⟨S16384x32, .f32⟩) main_call0.v0 main_call0.cst main_call0.c main_call0.v1_0 (fun x y u v j => (Host.argReduce reducer_argmax_f32_i32 x y u v reducesTo_S16384x32_S16384_d1 h_S_ j).1),
    TRef.quaternary (.of main_v10 : TRef sig ⟨S16384x32, .f32⟩) main_call0.v0 main_call0.cst main_call0.c main_call0.v1_1 (fun x y u v j => (Host.argReduce reducer_argmax_f32_i32 x y u v reducesTo_S16384x32_S16384_d1 h_S_ j).2),
    TRef.nullary main_call1.v0 (iotaInDim S16384x32 32 1),
    TRef.nullary main_call1.cst (constant S_ .f32 0xFF800000#32),
    TRef.nullary main_call1.c (constantI S_ 32 0#32),
    TRef.quaternary (.of main_arg1 : TRef sig ⟨S16384x32, .f32⟩) main_call1.v0 main_call1.cst main_call1.c main_call1.v1_0 (fun x y u v j => (Host.argReduce reducer_argmax_f32_i32 x y u v reducesTo_S16384x32_S16384_d1 h_S_ j).1),
    TRef.quaternary (.of main_arg1 : TRef sig ⟨S16384x32, .f32⟩) main_call1.v0 main_call1.cst main_call1.c main_call1.v1_1 (fun x y u v j => (Host.argReduce reducer_argmax_f32_i32 x y u v reducesTo_S16384x32_S16384_d1 h_S_ j).2) ]

/-- Statements 25 to 46 of @main, the calls unfolded. -/
abbrev confOps : List (HloOp τ sig (Elt F)) :=
  [ nullary main_cst_2 (constant S_ .f32 0x00000000#32),
    unary main_cst_2 main_v13 (broadcastInDim S32x32 ![] bcast_S_S32x32 : (⟨S_, .f32⟩ : BufTy).Contents (Elt F) → (⟨S32x32, .f32⟩ : BufTy).Contents (Elt F)),
    nullary main_c (constantI S_ 32 0#32),
    unary main_c main_v14 (broadcastInDim S16384 ![] bcast_S_S16384 : (⟨S_, .i32⟩ : BufTy).Contents (Elt F) → (⟨S16384, .i32⟩ : BufTy).Contents (Elt F)),
    binary main_v12 main_v14 main_v15 (cmpi .slt : (⟨S16384, .i32⟩ : BufTy).Contents (Elt F) → (⟨S16384, .i32⟩ : BufTy).Contents (Elt F) → (⟨S16384, .i1⟩ : BufTy).Contents (Elt F)),
    nullary main_c_3 (constantI S_ 32 32#32),
    unary main_c_3 main_v16 (broadcastInDim S16384 ![] bcast_S_S16384 : (⟨S_, .i32⟩ : BufTy).Contents (Elt F) → (⟨S16384, .i32⟩ : BufTy).Contents (Elt F)),
    binary main_v12 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_v12 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v19 (broadcastInDim S16384 ![] bcast_S_S16384 : (⟨S_, .i32⟩ : BufTy).Contents (Elt F) → (⟨S16384, .i32⟩ : BufTy).Contents (Elt F)),
    binary main_v11 main_v19 main_v20 (cmpi .slt : (⟨S16384, .i32⟩ : BufTy).Contents (Elt F) → (⟨S16384, .i32⟩ : BufTy).Contents (Elt F) → (⟨S16384, .i1⟩ : BufTy).Contents (Elt F)),
    nullary main_c_5 (constantI S_ 32 32#32),
    unary main_c_5 main_v21 (broadcastInDim S16384 ![] bcast_S_S16384 : (⟨S_, .i32⟩ : BufTy).Contents (Elt F) → (⟨S16384, .i32⟩ : BufTy).Contents (Elt F)),
    binary main_v11 main_v21 main_v22 (addi : (⟨S16384, .i32⟩ : BufTy).Contents (Elt F) → (⟨S16384, .i32⟩ : BufTy).Contents (Elt F) → (⟨S16384, .i32⟩ : BufTy).Contents (Elt F)),
    ternary main_v20 main_v22 main_v11 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v18 main_v24 (broadcastInDim S16384x1 ![0] bcast_S16384_S16384x1_0 : (⟨S16384, .i32⟩ : BufTy).Contents (Elt F) → (⟨S16384x1, .i32⟩ : BufTy).Contents (Elt F)),
    unary main_v23 main_v25 (broadcastInDim S16384x1 ![0] bcast_S16384_S16384x1_0 : (⟨S16384, .i32⟩ : BufTy).Contents (Elt F) → (⟨S16384x1, .i32⟩ : BufTy).Contents (Elt F)),
    binary main_v24 main_v25 main_v26 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    nullary main_cst_6 (constant S_ .f32 0x3F800000#32),
    unary main_cst_6 main_v27 (broadcastInDim S16384 ![] bcast_S_S16384 : (⟨S_, .f32⟩ : BufTy).Contents (Elt F) → (⟨S16384, .f32⟩ : BufTy).Contents (Elt F)),
    ternary main_v13 main_v26 main_v27 main_v28 ((fun x i u => Host.scatterAdd scatter_S32x32_S16384x2_S16384_n_01_01_1 x i u) : (⟨S32x32, .f32⟩ : BufTy).Contents (Elt F) → (⟨S16384x2, .i32⟩ : BufTy).Contents (Elt F) → (⟨S16384, .f32⟩ : BufTy).Contents (Elt F) → (⟨S32x32, .f32⟩ : BufTy).Contents (Elt F)) ]

/-- Statements 47 to 64 of @main, the calls unfolded. -/
abbrev splitOps : List (HloOp τ sig (Elt F)) :=
  [ nullary main_v29 (iotaInDim S32 32 0),
    unary main_v29 main_v30 (broadcastInDim S32x1 ![0] bcast_S32_S32x1_0 : (⟨S32, .i32⟩ : BufTy).Contents (Elt F) → (⟨S32x1, .i32⟩ : BufTy).Contents (Elt F)),
    unary main_v29 main_v31 (broadcastInDim S1x32 ![1] bcast_S32_S1x32_1 : (⟨S32, .i32⟩ : BufTy).Contents (Elt F) → (⟨S1x32, .i32⟩ : BufTy).Contents (Elt F)),
    unary main_v30 main_v32 (broadcastInDim S32x32 ![0, 1] bcast_S32x1_S32x32_0_1 : (⟨S32x1, .i32⟩ : BufTy).Contents (Elt F) → (⟨S32x32, .i32⟩ : BufTy).Contents (Elt F)),
    unary main_v31 main_v33 (broadcastInDim S32x32 ![0, 1] bcast_S1x32_S32x32_0_1 : (⟨S1x32, .i32⟩ : BufTy).Contents (Elt F) → (⟨S32x32, .i32⟩ : BufTy).Contents (Elt F)),
    binary main_v32 main_v33 main_v34 (cmpi .eq : (⟨S32x32, .i32⟩ : BufTy).Contents (Elt F) → (⟨S32x32, .i32⟩ : BufTy).Contents (Elt F) → (⟨S32x32, .i1⟩ : BufTy).Contents (Elt F)),
    nullary main_cst_7 (constant S_ .f32 0x00000000#32),
    TRef.unary (.of main_cst_7) main_call2.v0 id,
    TRef.unary main_call2.v0 main_call2.v1 (broadcastInDim S32x32 ![] bcast_S_S32x32),
    TRef.ternary (.of main_v34) (.of main_v28) main_call2.v1 main_call2.v2 select,
    nullary main_cst_8 (constant S_ .f32 0x00000000#32),
    binary main_v35 main_cst_8 main_v36 ((fun x v => Host.reduceAdd x v reducesTo_S32x32_S32_d0 h_S_) : (⟨S32x32, .f32⟩ : BufTy).Contents (Elt F) → (⟨S_, .f32⟩ : BufTy).Contents (Elt F) → (⟨S32, .f32⟩ : BufTy).Contents (Elt F)),
    nullary main_cst_9 (constant S_ .f32 0x00000000#32),
    binary main_v28 main_cst_9 main_v37 ((fun x v => Host.reduceAdd x v reducesTo_S32x32_S32_d0 h_S_) : (⟨S32x32, .f32⟩ : BufTy).Contents (Elt F) → (⟨S_, .f32⟩ : BufTy).Contents (Elt F) → (⟨S32, .f32⟩ : BufTy).Contents (Elt F)),
    binary main_v37 main_v36 main_v38 (subf : (⟨S32, .f32⟩ : BufTy).Contents (Elt F) → (⟨S32, .f32⟩ : BufTy).Contents (Elt F) → (⟨S32, .f32⟩ : BufTy).Contents (Elt F)),
    nullary main_cst_10 (constant S_ .f32 0x00000000#32),
    binary main_v28 main_cst_10 main_v39 ((fun x v => Host.reduceAdd x v reducesTo_S32x32_S32_d1 h_S_) : (⟨S32x32, .f32⟩ : BufTy).Contents (Elt F) → (⟨S_, .f32⟩ : BufTy).Contents (Elt F) → (⟨S32, .f32⟩ : BufTy).Contents (Elt F)),
    binary main_v39 main_v36 main_v40 (subf : (⟨S32, .f32⟩ : BufTy).Contents (Elt F) → (⟨S32, .f32⟩ : BufTy).Contents (Elt F) → (⟨S32, .f32⟩ : BufTy).Contents (Elt F)) ]

/-- Statements 65 to 70 of @main, the calls unfolded. -/
abbrev tverAOps : List (HloOp τ sig (Elt F)) :=
  [ nullary main_cst_11 (constant S_ .f32 0x322BCC77#32),
    unary main_cst_11 main_v41 (broadcastInDim S32 ![] bcast_S_S32 : (⟨S_, .f32⟩ : BufTy).Contents (Elt F) → (⟨S32, .f32⟩ : BufTy).Contents (Elt F)),
    binary main_v36 main_v41 main_v42 (addf : (⟨S32, .f32⟩ : BufTy).Contents (Elt F) → (⟨S32, .f32⟩ : BufTy).Contents (Elt F) → (⟨S32, .f32⟩ : BufTy).Contents (Elt F)),
    nullary main_cst_12 (constant S_ .f32 0x3E99999A#32),
    unary main_cst_12 main_v43 (broadcastInDim S32 ![] bcast_S_S32 : (⟨S_, .f32⟩ : BufTy).Contents (Elt F) → (⟨S32, .f32⟩ : BufTy).Contents (Elt F)),
    binary main_v38 main_v43 main_v44 (mulf : (⟨S32, .f32⟩ : BufTy).Contents (Elt F) → (⟨S32, .f32⟩ : BufTy).Contents (Elt F) → (⟨S32, .f32⟩ : BufTy).Contents (Elt F)) ]

/-- Statements 71 to 88 of @main, the calls unfolded. -/
abbrev tverBOps : List (HloOp τ sig (Elt F)) :=
  [ binary main_v36 main_v44 main_v45 (addf : (⟨S32, .f32⟩ : BufTy).Contents (Elt F) → (⟨S32, .f32⟩ : BufTy).Contents (Elt F) → (⟨S32, .f32⟩ : BufTy).Contents (Elt F)),
    nullary main_cst_13 (constant S_ .f32 0x3F333333#32),
    unary main_cst_13 main_v46 (broadcastInDim S32 ![] bcast_S_S32 : (⟨S_, .f32⟩ : BufTy).Contents (Elt F) → (⟨S32, .f32⟩ : BufTy).Contents (Elt F)),
    binary main_v40 main_v46 main_v47 (mulf : (⟨S32, .f32⟩ : BufTy).Contents (Elt F) → (⟨S32, .f32⟩ : BufTy).Contents (Elt F) → (⟨S32, .f32⟩ : BufTy).Contents (Elt F)),
    binary main_v45 main_v47 main_v48 (addf : (⟨S32, .f32⟩ : BufTy).Contents (Elt F) → (⟨S32, .f32⟩ : BufTy).Contents (Elt F) → (⟨S32, .f32⟩ : BufTy).Contents (Elt F)),
    nullary main_cst_14 (constant S_ .f32 0x322BCC77#32),
    unary main_cst_14 main_v49 (broadcastInDim S32 ![] bcast_S_S32 : (⟨S_, .f32⟩ : BufTy).Contents (Elt F) → (⟨S32, .f32⟩ : BufTy).Contents (Elt F)),
    binary main_v48 main_v49 main_v50 (addf : (⟨S32, .f32⟩ : BufTy).Contents (Elt F) → (⟨S32, .f32⟩ : BufTy).Contents (Elt F) → (⟨S32, .f32⟩ : BufTy).Contents (Elt F)),
    binary main_v42 main_v50 main_v51 (Host.divf : (⟨S32, .f32⟩ : BufTy).Contents (Elt F) → (⟨S32, .f32⟩ : BufTy).Contents (Elt F) → (⟨S32, .f32⟩ : BufTy).Contents (Elt F)),
    nullary main_cst_15 (constant S_ .f32 0x3F800000#32),
    unary main_cst_15 main_v52 (broadcastInDim S32 ![] bcast_S_S32 : (⟨S_, .f32⟩ : BufTy).Contents (Elt F) → (⟨S32, .f32⟩ : BufTy).Contents (Elt F)),
    binary main_v52 main_v51 main_v53 (subf : (⟨S32, .f32⟩ : BufTy).Contents (Elt F) → (⟨S32, .f32⟩ : BufTy).Contents (Elt F) → (⟨S32, .f32⟩ : BufTy).Contents (Elt F)),
    nullary main_cst_16 (constant S_ .f32 0x3F400000#32),
    unary main_cst_16 main_v54 (broadcastInDim S32 ![] bcast_S_S32 : (⟨S_, .f32⟩ : BufTy).Contents (Elt F) → (⟨S32, .f32⟩ : BufTy).Contents (Elt F)),
    binary main_v53 main_v54 main_v55 (Host.powf : (⟨S32, .f32⟩ : BufTy).Contents (Elt F) → (⟨S32, .f32⟩ : BufTy).Contents (Elt F) → (⟨S32, .f32⟩ : BufTy).Contents (Elt F)),
    binary main_v55 main_arg2 main_v56 (mulf : (⟨S32, .f32⟩ : BufTy).Contents (Elt F) → (⟨S32, .f32⟩ : BufTy).Contents (Elt F) → (⟨S32, .f32⟩ : BufTy).Contents (Elt F)),
    nullary main_cst_17 (constant S_ .f32 0x00000000#32),
    binary main_v56 main_cst_17 main_v57 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- Statements 89 to 100 of @main, the calls unfolded. -/
abbrev wtsOps : List (HloOp τ sig (Elt F)) :=
  [ nullary main_c_18 (constantI S_ 32 0#32),
    unary main_c_18 main_v58 (broadcastInDim S16384 ![] bcast_S_S16384 : (⟨S_, .i32⟩ : BufTy).Contents (Elt F) → (⟨S16384, .i32⟩ : BufTy).Contents (Elt F)),
    binary main_v12 main_v58 main_v59 (cmpi .slt : (⟨S16384, .i32⟩ : BufTy).Contents (Elt F) → (⟨S16384, .i32⟩ : BufTy).Contents (Elt F) → (⟨S16384, .i1⟩ : BufTy).Contents (Elt F)),
    nullary main_c_19 (constantI S_ 32 32#32),
    unary main_c_19 main_v60 (broadcastInDim S16384 ![] bcast_S_S16384 : (⟨S_, .i32⟩ : BufTy).Contents (Elt F) → (⟨S16384, .i32⟩ : BufTy).Contents (Elt F)),
    binary main_v12 main_v60 main_v61 (addi : (⟨S16384, .i32⟩ : BufTy).Contents (Elt F) → (⟨S16384, .i32⟩ : BufTy).Contents (Elt F) → (⟨S16384, .i32⟩ : BufTy).Contents (Elt F)),
    ternary main_v59 main_v61 main_v12 main_v62 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v62 main_v63 (broadcastInDim S16384x1 ![0] bcast_S16384_S16384x1_0 : (⟨S16384, .i32⟩ : BufTy).Contents (Elt F) → (⟨S16384x1, .i32⟩ : BufTy).Contents (Elt F)),
    binary main_arg2 main_v63 main_v64 ((fun x i => Host.gather gather_S32_S16384x1_S16384_n_0_n_n_0_1_1 x i) : (⟨S32, .f32⟩ : BufTy).Contents (Elt F) → (⟨S16384x1, .i32⟩ : BufTy).Contents (Elt F) → (⟨S16384, .f32⟩ : BufTy).Contents (Elt F)),
    nullary main_cst_20 (constant S_ .f32 0x00000000#32),
    binary main_v64 main_cst_20 main_v65 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v57 main_v65 main_v66 (Host.divf : (⟨S_, .f32⟩ : BufTy).Contents (Elt F) → (⟨S_, .f32⟩ : BufTy).Contents (Elt F) → (⟨S_, .f32⟩ : BufTy).Contents (Elt F)) ]

/-- Statements 101 to 108 of @main, the calls unfolded. -/
abbrev ctrOps : List (HloOp τ sig (Elt F)) :=
  [ TRef.nullary main_call3.cst (constant S_ .f32 0xFF800000#32),
    TRef.binary (.of main_v10 : TRef sig ⟨S16384x32, .f32⟩) main_call3.cst main_call3.v0 (fun x v => Host.reduce FloatOps.maximumf x v reducesTo_S16384x32_S16384_d1 h_S_),
    TRef.nullary main_call3.cst_0 (constant S_ .f32 0xFF800000#32),
    TRef.unary main_call3.cst_0 main_call3.v1 (broadcastInDim S16384 ![] bcast_S_S16384),
    TRef.binary main_call3.v1 main_call3.v0 main_call3.v2 maximumf,
    TRef.unary main_call3.v2 main_call3.v3 (broadcastInDim S16384x1 ![0] bcast_S16384_S16384x1_0),
    TRef.unary main_call3.v3 main_call3.v4 (broadcastInDim S16384x32 ![0, 1] bcast_S16384x1_S16384x32_0_1),
    TRef.binary (.of main_v10 : TRef sig ⟨S16384x32, .f32⟩) main_call3.v4 main_call3.v5 subf ]

/-- Statements 109 to 115 of @main, the calls unfolded. -/
abbrev lsmOps : List (HloOp τ sig (Elt F)) :=
  [ TRef.unary main_call3.v5 main_call3.v6 Host.exp,
    TRef.nullary main_call3.cst_1 (constant S_ .f32 0x00000000#32),
    TRef.binary main_call3.v6 main_call3.cst_1 main_call3.v7 (fun x v => Host.reduceAdd x v reducesTo_S16384x32_S16384_d1 h_S_),
    TRef.unary main_call3.v7 main_call3.v8 (broadcastInDim S16384x1 ![0] bcast_S16384_S16384x1_0),
    TRef.unary main_call3.v8 main_call3.v9 Host.log,
    TRef.unary main_call3.v9 main_call3.v10 (broadcastInDim S16384x32 ![0, 1] bcast_S16384x1_S16384x32_0_1),
    TRef.binary main_call3.v5 main_call3.v10 main_call3.v11 subf ]

/-- Statements 116 to 126 of @main, the calls unfolded. -/
abbrev cceOps : List (HloOp τ sig (Elt F)) :=
  [ unary main_arg2 main_v68 (broadcastInDim S1x32 ![1] bcast_S32_S1x32_1 : (⟨S32, .f32⟩ : BufTy).Contents (Elt F) → (⟨S1x32, .f32⟩ : BufTy).Contents (Elt F)),
    unary main_v68 main_v69 (broadcastInDim S16384x32 ![0, 1] bcast_S1x32_S16384x32_0_1 : (⟨S1x32, .f32⟩ : BufTy).Contents (Elt F) → (⟨S16384x32, .f32⟩ : BufTy).Contents (Elt F)),
    binary main_v69 main_arg1 main_v70 (mulf : (⟨S16384x32, .f32⟩ : BufTy).Contents (Elt F) → (⟨S16384x32, .f32⟩ : BufTy).Contents (Elt F) → (⟨S16384x32, .f32⟩ : BufTy).Contents (Elt F)),
    binary main_v70 main_v67 main_v71 (mulf : (⟨S16384x32, .f32⟩ : BufTy).Contents (Elt F) → (⟨S16384x32, .f32⟩ : BufTy).Contents (Elt F) → (⟨S16384x32, .f32⟩ : BufTy).Contents (Elt F)),
    nullary main_cst_21 (constant S_ .f32 0x00000000#32),
    binary main_v71 main_cst_21 main_v72 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v72 main_v73 (Host.negf : (⟨S16384, .f32⟩ : BufTy).Contents (Elt F) → (⟨S16384, .f32⟩ : BufTy).Contents (Elt F)),
    nullary main_cst_22 (constant S_ .f32 0x00000000#32),
    binary main_v73 main_cst_22 main_v74 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_23 (constant S_ .f32 0x46800000#32),
    binary main_v74 main_cst_23 main_v75 (Host.divf : (⟨S_, .f32⟩ : BufTy).Contents (Elt F) → (⟨S_, .f32⟩ : BufTy).Contents (Elt F) → (⟨S_, .f32⟩ : BufTy).Contents (Elt F)) ]

/-- Statements 127 to 131 of @main, the calls unfolded. -/
abbrev totOps : List (HloOp τ sig (Elt F)) :=
  [ nullary main_cst_24 (constant S_ .f32 0x3DCCCCCD#32),
    binary main_v75 main_cst_24 main_v76 (mulf : (⟨S_, .f32⟩ : BufTy).Contents (Elt F) → (⟨S_, .f32⟩ : BufTy).Contents (Elt F) → (⟨S_, .f32⟩ : BufTy).Contents (Elt F)),
    nullary main_cst_25 (constant S_ .f32 0x3F800000#32),
    binary main_v66 main_cst_25 main_v77 (mulf : (⟨S_, .f32⟩ : BufTy).Contents (Elt F) → (⟨S_, .f32⟩ : BufTy).Contents (Elt F) → (⟨S_, .f32⟩ : BufTy).Contents (Elt F)),
    binary main_v76 main_v77 main_v78 (addf : (⟨S_, .f32⟩ : BufTy).Contents (Elt F) → (⟨S_, .f32⟩ : BufTy).Contents (Elt F) → (⟨S_, .f32⟩ : BufTy).Contents (Elt F)) ]

/-- All of @main's operations in order. -/
abbrev ops : List (HloOp τ sig (Elt F)) :=
  (softOps ++ (argsOps ++ (confOps ++ (splitOps ++ (tverAOps))))) ++ (tverBOps ++ (wtsOps ++ (ctrOps ++ (lsmOps ++ (cceOps ++ (totOps))))))

set_option maxRecDepth 4096 in
/-- @main's window 0 is its line of operations. -/
theorem part0_eq (c : Dev nD) : main_part0 (F := F) c = seq (softOps ++ (argsOps ++ (confOps ++ (splitOps ++ (tverAOps))))) := by
  simp only [main_part0, fn_argmax.body, fn_argmax_0.body, fn_where.body, fn_log_softmax.body, seq, List.cons_append, List.nil_append,
    bind_assoc, pure_bind]
  rfl

set_option maxRecDepth 4096 in
/-- @main's window 1 is its line of operations. -/
theorem part1_eq (c : Dev nD) : main_part1 (F := F) c = seq (tverBOps ++ (wtsOps ++ (ctrOps ++ (lsmOps ++ (cceOps ++ (totOps)))))) := by
  simp only [main_part1, fn_argmax.body, fn_argmax_0.body, fn_where.body, fn_log_softmax.body, seq, List.cons_append, List.nil_append,
    bind_assoc, pure_bind]

/-- @main is that line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem soft_sub : (softOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem args_sub : (argsOps : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., nullary_bufs_sub .., nullary_bufs_sub .., quaternary_bufs_sub .., quaternary_bufs_sub ..⟩

theorem conf_sub : (confOps : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩

theorem split_sub : (splitOps : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., binary_bufs_sub .., nullary_bufs_sub .., binary_bufs_sub .., binary_bufs_sub ..⟩

theorem tverA_sub : (tverAOps : List (HloOp τ sig (Elt F))).Forall fun op => op.bufs ⊆ tcRefs τ sig :=
  ⟨nullary_bufs_sub .., unary_bufs_sub .., binary_bufs_sub .., nullary_bufs_sub .., unary_bufs_sub .., binary_bufs_sub ..⟩

theorem tverB_sub : (tverBOps : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub ..⟩

theorem wts_sub : (wtsOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub ..⟩

theorem ctr_sub : (ctrOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..⟩

theorem lsm_sub : (lsmOps : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

theorem cce_sub : (cceOps : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub .., nullary_bufs_sub .., binary_bufs_sub .., nullary_bufs_sub .., binary_bufs_sub ..⟩

theorem tot_sub : (totOps : List (HloOp τ sig (Elt F))).Forall fun op => op.bufs ⊆ tcRefs τ sig :=
  ⟨nullary_bufs_sub .., binary_bufs_sub .., nullary_bufs_sub .., binary_bufs_sub .., binary_bufs_sub ..⟩

theorem forall_append {α : Type} {p : α → Prop} {l₁ l₂ : List α} (h₁ : l₁.Forall p) (h₂ : l₂.Forall p) : (l₁ ++ l₂).Forall p := by
  rw [List.forall_iff_forall_mem] at *
  exact fun x hx => (List.mem_append.mp hx).elim (h₁ x) (h₂ x)

theorem ops_sub : (ops : List (HloOp τ sig (Elt F))).Forall fun op => op.bufs ⊆ tcRefs τ sig :=
  forall_append (forall_append soft_sub (forall_append args_sub (forall_append conf_sub (forall_append split_sub tverA_sub)))) (forall_append tverB_sub (forall_append wts_sub (forall_append ctr_sub (forall_append lsm_sub (forall_append cce_sub tot_sub)))))

theorem soft_fresh : ∀ op ∈ (softOps : List (HloOp τ sig (Elt F))), op.fresh = ∅ := by
  intro _ h; (repeat (cases h with | head => rfl | tail _ h => ?_)); exact nomatch h

theorem args_fresh : ∀ op ∈ (argsOps : List (HloOp τ sig (Elt F))), op.fresh = ∅ := by
  intro _ h; (repeat (cases h with | head => rfl | tail _ h => ?_)); exact nomatch h

theorem conf_fresh : ∀ op ∈ (confOps : List (HloOp τ sig (Elt F))), op.fresh = ∅ := by
  intro _ h; (repeat (cases h with | head => rfl | tail _ h => ?_)); exact nomatch h

theorem split_fresh : ∀ op ∈ (splitOps : List (HloOp τ sig (Elt F))), op.fresh = ∅ := by
  intro _ h; (repeat (cases h with | head => rfl | tail _ h => ?_)); exact nomatch h

theorem tverA_fresh : ∀ op ∈ (tverAOps : List (HloOp τ sig (Elt F))), op.fresh = ∅ := by
  intro _ h; (repeat (cases h with | head => rfl | tail _ h => ?_)); exact nomatch h

theorem tverB_fresh : ∀ op ∈ (tverBOps : List (HloOp τ sig (Elt F))), op.fresh = ∅ := by
  intro _ h; (repeat (cases h with | head => rfl | tail _ h => ?_)); exact nomatch h

theorem wts_fresh : ∀ op ∈ (wtsOps : List (HloOp τ sig (Elt F))), op.fresh = ∅ := by
  intro _ h; (repeat (cases h with | head => rfl | tail _ h => ?_)); exact nomatch h

theorem ctr_fresh : ∀ op ∈ (ctrOps : List (HloOp τ sig (Elt F))), op.fresh = ∅ := by
  intro _ h; (repeat (cases h with | head => rfl | tail _ h => ?_)); exact nomatch h

theorem lsm_fresh : ∀ op ∈ (lsmOps : List (HloOp τ sig (Elt F))), op.fresh = ∅ := by
  intro _ h; (repeat (cases h with | head => rfl | tail _ h => ?_)); exact nomatch h

theorem cce_fresh : ∀ op ∈ (cceOps : List (HloOp τ sig (Elt F))), op.fresh = ∅ := by
  intro _ h; (repeat (cases h with | head => rfl | tail _ h => ?_)); exact nomatch h

theorem tot_fresh : ∀ op ∈ (totOps : List (HloOp τ sig (Elt F))), op.fresh = ∅ := by
  intro _ h; (repeat (cases h with | head => rfl | tail _ h => ?_)); exact nomatch h

theorem mem_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

theorem ops_fresh : ∀ op ∈ (ops : List (HloOp τ sig (Elt F))), op.fresh = ∅ :=
  mem_app (mem_app soft_fresh (mem_app args_fresh (mem_app conf_fresh (mem_app split_fresh tverA_fresh)))) (mem_app tverB_fresh (mem_app wts_fresh (mem_app ctr_fresh (mem_app lsm_fresh (mem_app cce_fresh tot_fresh)))))

/-- Every execution of @main ends with every buffer at the fold of the operations over its launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What a stretch leaves alone -/

/-- The buffers that stretch writes. -/
abbrev softW : List (Ref sig .tc) := [main_cst, main_v0, main_cst_0, main_v1, main_v2, main_v3, main_v4, main_v5, main_v6, main_cst_1, main_v7, main_v8, main_v9, main_v10]

theorem soft_keep (V : Valuation τ sig (Elt F)) {r : Ref sig .tc} (hr : r ∉ softW) :
    after (softOps (F := F)) V (Proc.devRef .tc r) = V (Proc.devRef .tc r) :=
  after_of_writes_sub _ V (forall_writes_sub_of_map rfl) hr

/-- The buffers that stretch writes. -/
abbrev argsW : List (Ref sig .tc) := [main_call0_v0, main_call0_cst, main_call0_c, main_call0_v1_0, main_v11, main_call1_v0, main_call1_cst, main_call1_c, main_call1_v1_0, main_v12]

theorem args_keep (V : Valuation τ sig (Elt F)) {r : Ref sig .tc} (hr : r ∉ argsW) :
    after (argsOps (F := F)) V (Proc.devRef .tc r) = V (Proc.devRef .tc r) :=
  after_of_writes_sub _ V (forall_writes_sub_of_map rfl) hr

/-- The buffers that stretch writes. -/
abbrev confW : List (Ref sig .tc) := [main_cst_2, main_v13, main_c, main_v14, main_v15, main_c_3, main_v16, main_v17, main_v18, main_c_4, main_v19, main_v20, main_c_5, main_v21, main_v22, main_v23, main_v24, main_v25, main_v26, main_cst_6, main_v27, main_v28]

theorem conf_keep (V : Valuation τ sig (Elt F)) {r : Ref sig .tc} (hr : r ∉ confW) :
    after (confOps (F := F)) V (Proc.devRef .tc r) = V (Proc.devRef .tc r) :=
  after_of_writes_sub _ V (forall_writes_sub_of_map rfl) hr

/-- The buffers that stretch writes. -/
abbrev splitW : List (Ref sig .tc) := [main_v29, main_v30, main_v31, main_v32, main_v33, main_v34, main_cst_7, main_call2_v0, main_call2_v1, main_v35, main_cst_8, main_v36, main_cst_9, main_v37, main_v38, main_cst_10, main_v39, main_v40]

theorem split_keep (V : Valuation τ sig (Elt F)) {r : Ref sig .tc} (hr : r ∉ splitW) :
    after (splitOps (F := F)) V (Proc.devRef .tc r) = V (Proc.devRef .tc r) :=
  after_of_writes_sub _ V (forall_writes_sub_of_map rfl) hr

/-- The buffers that stretch writes. -/
abbrev tverAW : List (Ref sig .tc) := [main_cst_11, main_v41, main_v42, main_cst_12, main_v43, main_v44]

theorem tverA_keep (V : Valuation τ sig (Elt F)) {r : Ref sig .tc} (hr : r ∉ tverAW) :
    after (tverAOps (F := F)) V (Proc.devRef .tc r) = V (Proc.devRef .tc r) :=
  after_of_writes_sub _ V (forall_writes_sub_of_map rfl) hr

/-- The buffers that stretch writes. -/
abbrev tverBW : List (Ref sig .tc) := [main_v45, main_cst_13, main_v46, main_v47, main_v48, main_cst_14, main_v49, main_v50, main_v51, main_cst_15, main_v52, main_v53, main_cst_16, main_v54, main_v55, main_v56, main_cst_17, main_v57]

theorem tverB_keep (V : Valuation τ sig (Elt F)) {r : Ref sig .tc} (hr : r ∉ tverBW) :
    after (tverBOps (F := F)) V (Proc.devRef .tc r) = V (Proc.devRef .tc r) :=
  after_of_writes_sub _ V (forall_writes_sub_of_map rfl) hr

/-- The buffers that stretch writes. -/
abbrev wtsW : List (Ref sig .tc) := [main_c_18, main_v58, main_v59, main_c_19, main_v60, main_v61, main_v62, main_v63, main_v64, main_cst_20, main_v65, main_v66]

theorem wts_keep (V : Valuation τ sig (Elt F)) {r : Ref sig .tc} (hr : r ∉ wtsW) :
    after (wtsOps (F := F)) V (Proc.devRef .tc r) = V (Proc.devRef .tc r) :=
  after_of_writes_sub _ V (forall_writes_sub_of_map rfl) hr

/-- The buffers that stretch writes. -/
abbrev ctrW : List (Ref sig .tc) := [main_call3_cst, main_call3_v0, main_call3_cst_0, main_call3_v1, main_call3_v2, main_call3_v3, main_call3_v4, main_call3_v5]

theorem ctr_keep (V : Valuation τ sig (Elt F)) {r : Ref sig .tc} (hr : r ∉ ctrW) :
    after (ctrOps (F := F)) V (Proc.devRef .tc r) = V (Proc.devRef .tc r) :=
  after_of_writes_sub _ V (forall_writes_sub_of_map rfl) hr

/-- The buffers that stretch writes. -/
abbrev lsmW : List (Ref sig .tc) := [main_call3_v6, main_call3_cst_1, main_call3_v7, main_call3_v8, main_call3_v9, main_call3_v10, main_v67]

theorem lsm_keep (V : Valuation τ sig (Elt F)) {r : Ref sig .tc} (hr : r ∉ lsmW) :
    after (lsmOps (F := F)) V (Proc.devRef .tc r) = V (Proc.devRef .tc r) :=
  after_of_writes_sub _ V (forall_writes_sub_of_map rfl) hr

/-- The buffers that stretch writes. -/
abbrev cceW : List (Ref sig .tc) := [main_v68, main_v69, main_v70, main_v71, main_cst_21, main_v72, main_v73, main_cst_22, main_v74, main_cst_23, main_v75]

theorem cce_keep (V : Valuation τ sig (Elt F)) {r : Ref sig .tc} (hr : r ∉ cceW) :
    after (cceOps (F := F)) V (Proc.devRef .tc r) = V (Proc.devRef .tc r) :=
  after_of_writes_sub _ V (forall_writes_sub_of_map rfl) hr

/-- The buffers that stretch writes. -/
abbrev totW : List (Ref sig .tc) := [main_cst_24, main_v76, main_cst_25, main_v77, main_v78]

theorem tot_keep (V : Valuation τ sig (Elt F)) {r : Ref sig .tc} (hr : r ∉ totW) :
    after (totOps (F := F)) V (Proc.devRef .tc r) = V (Proc.devRef .tc r) :=
  after_of_writes_sub _ V (forall_writes_sub_of_map rfl) hr

/-! ## What a stretch computes -/

theorem soft_val (V : Valuation τ sig (Elt F)) :
    after softOps V (Proc.devRef .tc main_v10) = soft (V (Proc.devRef .tc main_arg0)) := by
  after_results_simp
  rfl

theorem args_val₀ (V : Valuation τ sig (Elt F)) :
    after argsOps V (Proc.devRef .tc main_v11) = amax (V (Proc.devRef .tc main_v10)) := by
  after_results_simp
  rfl

theorem args_val₁ (V : Valuation τ sig (Elt F)) :
    after argsOps V (Proc.devRef .tc main_v12) = amax (V (Proc.devRef .tc main_arg1)) := by
  after_results_simp
  rfl

theorem conf_val (V : Valuation τ sig (Elt F)) :
    after confOps V (Proc.devRef .tc main_v28) = conf (V (Proc.devRef .tc main_v12)) (V (Proc.devRef .tc main_v11)) := by
  after_results_simp
  rfl

theorem split_tp (V : Valuation τ sig (Elt F)) :
    after splitOps V (Proc.devRef .tc main_v36) = tps (V (Proc.devRef .tc main_v28)) := by
  after_results_simp
  rfl

theorem split_fp (V : Valuation τ sig (Elt F)) :
    after splitOps V (Proc.devRef .tc main_v38) = fps (V (Proc.devRef .tc main_v28)) := by
  after_results_simp
  rfl

theorem split_fn (V : Valuation τ sig (Elt F)) :
    after splitOps V (Proc.devRef .tc main_v40) = fns (V (Proc.devRef .tc main_v28)) := by
  after_results_simp
  rfl

theorem tver_val (V : Valuation τ sig (Elt F)) :
    after tverBOps (after tverAOps V) (Proc.devRef .tc main_v57)
      = focal (tver (V (Proc.devRef .tc main_v36)) (V (Proc.devRef .tc main_v38)) (V (Proc.devRef .tc main_v40)))
          (V (Proc.devRef .tc main_arg2)) := by
  after_results_simp
  rfl

theorem wts_val (V : Valuation τ sig (Elt F)) :
    after wtsOps V (Proc.devRef .tc main_v66)
      = Host.divf (F := F) (φ := .f32) (s := S_) (V (Proc.devRef .tc main_v57)) (wsum (V (Proc.devRef .tc main_v12)) (V (Proc.devRef .tc main_arg2))) := by
  after_results_simp
  rfl

theorem ctr_val (V : Valuation τ sig (Elt F)) :
    after ctrOps V (Proc.devRef .tc main_call3_v5)
      = subf (F := F) (φ := .f32) (s := S16384x32) (V (Proc.devRef .tc main_v10)) (rowMax (V (Proc.devRef .tc main_v10))) := by
  after_results_simp
  simp only [TRef.ofBuf, TRef.toBuf, cast_eq]
  rfl

theorem lsm_val (V : Valuation τ sig (Elt F)) :
    after lsmOps V (Proc.devRef .tc main_v67) = logOf (V (Proc.devRef .tc main_call3_v5)) := by
  after_results_simp
  simp only [TRef.ofBuf, TRef.toBuf, cast_eq]
  rfl

theorem cce_val (V : Valuation τ sig (Elt F)) :
    after cceOps V (Proc.devRef .tc main_v75)
      = cceMean (V (Proc.devRef .tc main_v67)) (V (Proc.devRef .tc main_arg1)) (V (Proc.devRef .tc main_arg2)) := by
  after_results_simp
  rfl

theorem tot_val (V : Valuation τ sig (Elt F)) :
    after totOps V (Proc.devRef .tc main_v78) = total (V (Proc.devRef .tc main_v75)) (V (Proc.devRef .tc main_v66)) := by
  after_results_simp
  rfl

/-! ## The whole line -/

theorem after_ops (V : Valuation τ sig (Elt F)) :
    after ops V = after totOps (after cceOps (after lsmOps (after ctrOps (after wtsOps (after tverBOps (after tverAOps (after splitOps (after confOps
      (after argsOps (after softOps V)))))))))) := by
  simp only [ops, after_append]

theorem out_eq (V : Valuation τ sig (Elt F)) :
    after ops V (Proc.devRef .tc main_v78)
      = out (V (Proc.devRef .tc main_arg0)) (V (Proc.devRef .tc main_arg1)) (V (Proc.devRef .tc main_arg2)) := by
  have hs := soft_val V
  have h10 : after softOps V (Proc.devRef .tc main_arg1) = V (Proc.devRef .tc main_arg1) := soft_keep V (by decide)
  have h20 : after softOps V (Proc.devRef .tc main_arg2) = V (Proc.devRef .tc main_arg2) := soft_keep V (by decide)
  rw [after_ops]
  generalize after softOps V = V₁ at hs h10 h20 ⊢
  have hp := args_val₀ V₁
  have hg := args_val₁ V₁
  have hs1 : after argsOps V₁ (Proc.devRef .tc main_v10) = V₁ (Proc.devRef .tc main_v10) := args_keep V₁ (by decide)
  have h11 : after argsOps V₁ (Proc.devRef .tc main_arg1) = V₁ (Proc.devRef .tc main_arg1) := args_keep V₁ (by decide)
  have h21 : after argsOps V₁ (Proc.devRef .tc main_arg2) = V₁ (Proc.devRef .tc main_arg2) := args_keep V₁ (by decide)
  rw [hs] at hp hs1
  rw [h10] at hg h11
  rw [h20] at h21
  generalize after argsOps V₁ = V₂ at hp hg hs1 h11 h21 ⊢
  have hc := conf_val V₂
  rw [hp, hg] at hc
  have hs1' := (conf_keep (F := F) V₂ (r := main_v10) (by decide)).trans hs1
  have h11' := (conf_keep (F := F) V₂ (r := main_arg1) (by decide)).trans h11
  have h21' := (conf_keep (F := F) V₂ (r := main_arg2) (by decide)).trans h21
  have hg' := (conf_keep (F := F) V₂ (r := main_v12) (by decide)).trans hg
  generalize after confOps V₂ = V₃ at hs1' h11' h21' hg' hc ⊢
  clear hs1 h11 h21 hg
  rename' hs1' => hs1
  rename' h11' => h11
  rename' h21' => h21
  rename' hg' => hg
  have ht := split_tp V₃
  have hf := split_fp V₃
  have hn := split_fn V₃
  rw [hc] at ht hf hn
  have hs1' := (split_keep (F := F) V₃ (r := main_v10) (by decide)).trans hs1
  have h11' := (split_keep (F := F) V₃ (r := main_arg1) (by decide)).trans h11
  have h21' := (split_keep (F := F) V₃ (r := main_arg2) (by decide)).trans h21
  have hg' := (split_keep (F := F) V₃ (r := main_v12) (by decide)).trans hg
  generalize after splitOps V₃ = V₄ at hs1' h11' h21' hg' ht hf hn ⊢
  clear hs1 h11 h21 hg
  rename' hs1' => hs1
  rename' h11' => h11
  rename' h21' => h21
  rename' hg' => hg
  have hv := tver_val V₄
  rw [ht, hf, hn, h21] at hv
  have hs1' := ((tverB_keep (F := F) _ (r := main_v10) (by decide)).trans (tverA_keep V₄ (r := main_v10) (by decide))).trans hs1
  have h11' := ((tverB_keep (F := F) _ (r := main_arg1) (by decide)).trans (tverA_keep V₄ (r := main_arg1) (by decide))).trans h11
  have h21' := ((tverB_keep (F := F) _ (r := main_arg2) (by decide)).trans (tverA_keep V₄ (r := main_arg2) (by decide))).trans h21
  have hg' := ((tverB_keep (F := F) _ (r := main_v12) (by decide)).trans (tverA_keep V₄ (r := main_v12) (by decide))).trans hg
  generalize after tverBOps (after tverAOps V₄) = V₅ at hv hs1' h11' h21' hg' ⊢
  have hw := wts_val V₅
  rw [hv, hg', h21'] at hw
  rw [tot_val, cce_val, cce_keep (r := main_v66) _ (by decide), lsm_keep (r := main_v66) _ (by decide), ctr_keep (r := main_v66) _ (by decide), hw, lsm_val, ctr_val,
    lsm_keep (r := main_arg1) _ (by decide), lsm_keep (r := main_arg2) _ (by decide), ctr_keep (r := main_arg1) _ (by decide), ctr_keep (r := main_arg2) _ (by decide), wts_keep (r := main_v10) _ (by decide), wts_keep (r := main_arg1) _ (by decide),
    wts_keep (r := main_arg2) _ (by decide), hs1', h11', h21']
  rfl

theorem arg_eq (V : Valuation τ sig (Elt F)) {r : Ref sig .tc} (h : r = main_arg0 ∨ r = main_arg1 ∨ r = main_arg2) :
    after ops V (Proc.devRef .tc r) = V (Proc.devRef .tc r) := by
  rw [after_ops]
  rcases h with rfl | rfl | rfl <;>
    rw [tot_keep _ (by decide), cce_keep _ (by decide), lsm_keep _ (by decide), ctr_keep _ (by decide), wts_keep _ (by decide), tverB_keep _ (by decide), tverA_keep _ (by decide),
      split_keep _ (by decide), conf_keep _ (by decide), args_keep _ (by decide), soft_keep _ (by decide)]

/-- Every execution of the reference ends with its result at `out` of its arguments and the arguments as they were. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v78)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun _ h => ⟨fun c =>
    ⟨(h c main_v78).trans (out_eq _), (h c main_arg0).trans (arg_eq _ (.inl rfl)),
      (h c main_arg1).trans (arg_eq _ (.inr (.inl rfl))), (h c main_arg2).trans (arg_eq _ (.inr (.inr rfl)))⟩,
    sem_eq_zero_of_no_sems (by decide) _⟩) (run_ops m ρ)

end Cert.Proof.Ref

end
-- ==== Proof.Bcast.lean ====
/-
  Broadcasts between vectors, rows, columns and tables, read at an index.
-/
module

public import Idealize.ShloMosaic.Lib.ValueIdxCore
public import Idealize.ShloMosaic.Lib.Pipeline.Value

@[expose] public section

noncomputable section

namespace Cert.Proof.Best

open Idealize.ShloMosaic Idealize.ShloMosaic.ValueIdx

variable {α : Type} {m n : ℕ}

/-- A column spread over a table's rows. -/
theorem bcast_col (h : (⟨2, ![m, 1]⟩ : Shape).BroadcastsInDim ⟨2, ![m, n]⟩ ![0, 1]) (y : (⟨2, ![m, 1]⟩ : Shape).Idx → α)
    (i : Fin m) (j : Fin n) : broadcastInDim ⟨2, ![m, n]⟩ ![0, 1] h y (ix2 i j) = y (ix2 i (0 : Fin 1)) := by
  refine broadcastInDim_apply _ h y _ _ fun a => ?_
  match a with
  | ⟨0, _⟩ =>
      show i.val = if m = 1 then 0 else i.val
      split
      · have := i.isLt; omega
      · rfl
  | ⟨1, _⟩ => rfl

/-- A row spread over a table. -/
theorem bcast_row (h : (⟨2, ![1, n]⟩ : Shape).BroadcastsInDim ⟨2, ![m, n]⟩ ![0, 1]) (y : (⟨2, ![1, n]⟩ : Shape).Idx → α)
    (i : Fin m) (j : Fin n) : broadcastInDim ⟨2, ![m, n]⟩ ![0, 1] h y (ix2 i j) = y (ix2 (0 : Fin 1) j) := by
  refine broadcastInDim_apply _ h y _ _ fun a => ?_
  match a with
  | ⟨0, _⟩ => rfl
  | ⟨1, _⟩ =>
      show j.val = if n = 1 then 0 else j.val
      split
      · have := j.isLt; omega
      · rfl

/-- A vector as a column. -/
theorem bcast_up (h : (⟨1, ![m]⟩ : Shape).BroadcastsInDim ⟨2, ![m, 1]⟩ ![0]) (y : (⟨1, ![m]⟩ : Shape).Idx → α)
    (i : Fin m) (j : Fin 1) : broadcastInDim ⟨2, ![m, 1]⟩ ![0] h y (ix2 i j) = y (ix1 i) := by
  refine broadcastInDim_apply _ h y _ _ fun a => ?_
  match a with
  | ⟨0, _⟩ =>
      show i.val = if m = 1 then 0 else i.val
      split
      · have := i.isLt; omega
      · rfl

/-- A vector as a row. -/
theorem bcast_flat (h : (⟨1, ![n]⟩ : Shape).BroadcastsInDim ⟨2, ![1, n]⟩ ![1]) (y : (⟨1, ![n]⟩ : Shape).Idx → α)
    (i : Fin 1) (j : Fin n) : broadcastInDim ⟨2, ![1, n]⟩ ![1] h y (ix2 i j) = y (ix1 j) := by
  refine broadcastInDim_apply _ h y _ _ fun a => ?_
  match a with
  | ⟨0, _⟩ =>
      show j.val = if n = 1 then 0 else j.val
      split
      · have := j.isLt; omega
      · rfl

end Cert.Proof.Best

end
-- ==== Proof.Argmax.lean ====
/-
  The place of a row's first maximum: what a row's argmax is, and the host's arg-max read as it.
-/
module

public import proofs.«01_k».proof.Proof.RefRun
public import proofs.«01_k».proof.Pre_confused
public import proofs.«01_k».proof.Proof.Gen.Pre_confused
public import proofs.«01_k».proof.Proof.Bcast
public import Idealize.ShloMosaic.PureOps.Ideal.Laws
public import Idealize.ShloMosaic.Lib.ValueIdxCore
public import Idealize.ShloMosaic.Lib.ReduceAll

@[expose] public section

noncomputable section

namespace Cert.Proof.Best

open Idealize.ShloMosaic Idealize.ShloMosaic.ValueIdx
open Cert.ReferenceIdeal Cert.ReferenceIdeal.Gen

/-- `k` is the first place of the largest of the values `v`. -/
def IsBest (v : Fin 32 → EReal) (k : Fin 32) : Prop := ∀ l, v l < v k ∨ (v l = v k ∧ k ≤ l)

theorem IsBest.unique {v : Fin 32 → EReal} {k l : Fin 32} (hk : IsBest v k) (hl : IsBest v l) : k = l := by
  rcases hk l with h | ⟨h, h'⟩ <;> rcases hl k with g | ⟨g, g'⟩
  · exact absurd (h.trans g) (lt_irrefl _)
  · exact absurd h (by rw [g]; exact lt_irrefl _)
  · exact absurd g (by rw [h]; exact lt_irrefl _)
  · exact le_antisymm h' g'

/-- A pair at least as good as another: its value is larger, or equal at a place not later. -/
def Ge (r p : EReal × BitVec 32) : Prop := p.1 < r.1 ∨ (p.1 = r.1 ∧ r.2.toNat ≤ p.2.toNat)

theorem Ge.refl (r : EReal × BitVec 32) : Ge r r := .inr ⟨rfl, le_refl _⟩

theorem Ge.trans {r q p : EReal × BitVec 32} (h : Ge r q) (g : Ge q p) : Ge r p := by
  rcases h with h | ⟨h, h'⟩ <;> rcases g with g | ⟨g, g'⟩
  · exact .inl (g.trans h)
  · exact .inl (g ▸ h)
  · exact .inl (h ▸ g)
  · exact .inr ⟨g.trans h, h'.trans g'⟩

/-- The reducer keeps the better of its two pairs. -/
theorem reducer_spec (p q : Ideal .f32 × BitVec 32) (hp : p.2.toNat < 32) (hq : q.2.toNat < 32) :
    (reducer_argmax_f32_i32 (F := Ideal) p q = p ∧ Ge p q) ∨ (reducer_argmax_f32_i32 (F := Ideal) p q = q ∧ Ge q p) := by
  obtain ⟨a, i⟩ := p
  obtain ⟨b, k⟩ := q
  have hslt : i.slt k = decide (i.toNat < k.toNat) := by
    rw [BitVec.slt_eq_ult_of_msb_eq]
    · rfl
    · rw [BitVec.msb_eq_false_iff_two_mul_lt.2 (by simp only at hp; omega), BitVec.msb_eq_false_iff_two_mul_lt.2 (by simp only at hq; omega)]
  have key : reducer_argmax_f32_i32 (F := Ideal) (a, i) (b, k)
      = (if b < a then a else b, if b < a ∨ (a = b ∧ i.toNat < k.toNat) then i else k) := by
    simp only [reducer_argmax_f32_i32, Ideal.cmpf_def, Ideal.cmp, IntOp.cmpi, IntOp.ori, IntOp.andi, Scalar.select, hslt]
    by_cases h1 : b < a <;> by_cases h2 : a = b <;> by_cases h3 : i.toNat < k.toNat <;> simp [h1, h2, h3]
  rw [key]
  rcases lt_trichotomy a b with h | h | h
  · right
    have h1 : ¬ b < a := not_lt.2 h.le
    have h2 : ¬ a = b := h.ne
    exact ⟨by simp [h1, h2], .inl h⟩
  · subst h
    by_cases h3 : i.toNat < k.toNat
    · left; exact ⟨by simp [h3], .inr ⟨rfl, h3.le⟩⟩
    · right; exact ⟨by simp [h3], .inr ⟨rfl, not_lt.1 h3⟩⟩
  · left; exact ⟨by simp [h], .inl h⟩

/-- Folding the reducer leaves one of the pairs, at least as good as every one. -/
theorem foldl_best (l : List (Ideal .f32 × BitVec 32)) : ∀ (p : Ideal .f32 × BitVec 32),
    (∀ q ∈ p :: l, q.2.toNat < 32) → l.foldl (reducer_argmax_f32_i32 (F := Ideal)) p ∈ p :: l
      ∧ ∀ q ∈ p :: l, Ge (l.foldl (reducer_argmax_f32_i32 (F := Ideal)) p) q := by
  induction l with
  | nil =>
      intro p _
      exact ⟨by simp, fun q hq => by rw [List.mem_singleton.1 hq]; exact Ge.refl _⟩
  | cons a l ih =>
      intro p h
      have ha := h a (by simp)
      have hp := h p (by simp)
      rcases reducer_spec p a hp ha with ⟨e, hge⟩ | ⟨e, hge⟩
      · rw [List.foldl_cons, e]
        obtain ⟨h1, h2⟩ := ih p fun q hq => h q (by
          rcases List.mem_cons.1 hq with rfl | hq
          · simp
          · simp [hq])
        refine ⟨?_, fun q hq => ?_⟩
        · rcases List.mem_cons.1 h1 with h1 | h1
          · rw [h1]; simp
          · exact List.mem_cons_of_mem _ (List.mem_cons_of_mem _ h1)
        · rcases List.mem_cons.1 hq with rfl | hq
          · exact h2 _ (by simp)
          rcases List.mem_cons.1 hq with rfl | hq
          · exact (h2 p (by simp)).trans hge
          · exact h2 q (by simp [hq])
      · rw [List.foldl_cons, e]
        obtain ⟨h1, h2⟩ := ih a fun q hq => h q (by
          rcases List.mem_cons.1 hq with rfl | hq
          · simp
          · simp [hq])
        refine ⟨List.mem_cons_of_mem _ h1, fun q hq => ?_⟩
        rcases List.mem_cons.1 hq with rfl | hq
        · exact (h2 a (by simp)).trans hge
        · exact h2 q hq

/-- A row of a table. -/
def row (x : FVec Ideal S16384x32 .f32) (n : Fin 16384) (k : Fin 32) : EReal := x (ix2 n k)

/-- The pairs the arg-max folds over at row `n`: the row's values, each with its place. -/
theorem mem_fiber (x : FVec Ideal S16384x32 .f32) (n : Fin 16384) (p : Ideal .f32 × BitVec 32) :
    p ∈ Host.argReduceFiber x (iotaInDim S16384x32 32 1) reducesTo_S16384x32_S16384_d1 (ix1 n)
      ↔ ∃ k : Fin 32, p = (row x n k, BitVec.ofNat 32 k) := by
  unfold Host.argReduceFiber
  rw [List.mem_map]
  constructor
  · rintro ⟨m, hm, rfl⟩
    rw [List.mem_filter] at hm
    have hd := of_decide_eq_true hm.2
    generalize S16384x32.rowMajor.symm m = i at hd ⊢
    have h0 : i 0 = n := Fin.ext (by
      rw [← Shape.ReducesTo.drop_apply_val_of_eq reducesTo_S16384x32_S16384_d1 i 0 0, hd])
    refine ⟨i 1, ?_⟩
    have hi : i = ix2 n (i 1) := by rw [← h0]; exact eq_ix2 i
    exact Prod.ext (congrArg x hi) rfl
  · rintro ⟨k, rfl⟩
    refine ⟨S16384x32.rowMajor (ix2 n k), List.mem_filter.2 ⟨List.mem_finRange _, decide_eq_true ?_⟩, ?_⟩
    · rw [Equiv.symm_apply_apply]
      funext b
      match b with
      | ⟨0, _⟩ => exact Fin.ext (Shape.ReducesTo.drop_apply_val_of_eq reducesTo_S16384x32_S16384_d1 (ix2 n k) 0 0)
    · rw [Equiv.symm_apply_apply]; rfl

/-- The host's arg-max at row `n` is the first place of the row's largest value. -/
theorem amax_spec (x : FVec Ideal S16384x32 .f32) (n : Fin 16384) :
    ∃ k : Fin 32, IsBest (row x n) k ∧ Ref.amax x (ix1 n) = BitVec.ofNat 32 k := by
  have ha : Ref.amax x (ix1 n) = ((Host.argReduceFiber x (iotaInDim S16384x32 32 1) reducesTo_S16384x32_S16384_d1 (ix1 n)).foldl
      (reducer_argmax_f32_i32 (F := Ideal)) ((⊥ : EReal), 0#32)).2 := by
    unfold Ref.amax
    rw [Ideal.argReduce_eq_reduce2, Host.reduce2_eq_foldl_fiber]
    have : constant (F := Ideal) S_ .f32 0xFF800000#32 (Shape.Idx.first h_S_) = (⊥ : EReal) := by
      simp [constant, Ideal.ofBits, Ideal.ieee]
    rw [this]; rfl
  rw [ha]
  generalize hl : Host.argReduceFiber x (iotaInDim S16384x32 32 1) reducesTo_S16384x32_S16384_d1 (ix1 n) = l
  have hm : ∀ p, p ∈ l ↔ ∃ k : Fin 32, p = (row x n k, BitVec.ofNat 32 k) := fun p => by rw [← hl]; exact mem_fiber x n p
  have hlt : ∀ q ∈ ((⊥ : EReal), 0#32) :: l, q.2.toNat < 32 := by
    intro q hq
    rcases List.mem_cons.1 hq with rfl | hq
    · decide
    · obtain ⟨k, rfl⟩ := (hm q).1 hq
      simp only [BitVec.toNat_ofNat]; have := k.isLt; omega
  obtain ⟨h1, h2⟩ := foldl_best l ((⊥ : EReal), 0#32) hlt
  generalize l.foldl (reducer_argmax_f32_i32 (F := Ideal)) ((⊥ : EReal), 0#32) = r at h1 h2
  have hr : ∃ k : Fin 32, r = (row x n k, BitVec.ofNat 32 k) := by
    rcases List.mem_cons.1 h1 with h1 | h1
    · refine ⟨0, ?_⟩
      rcases h2 _ (List.mem_cons_of_mem _ ((hm _).2 ⟨0, rfl⟩)) with g | ⟨g, _⟩
      · rw [h1] at g; exact absurd g not_lt_bot
      · rw [h1] at g ⊢; exact Prod.ext g.symm rfl
    · exact (hm r).1 h1
  obtain ⟨k, rfl⟩ := hr
  refine ⟨k, fun m => ?_, rfl⟩
  rcases h2 _ (List.mem_cons_of_mem _ ((hm _).2 ⟨m, rfl⟩)) with g | ⟨g, g'⟩
  · exact .inl g
  · refine .inr ⟨g, ?_⟩
    simp only [BitVec.toNat_ofNat] at g'
    have := k.isLt; have := m.isLt
    rw [Fin.le_def]; omega

/-- The first place of a row's largest value. -/
def best (x : FVec Ideal S16384x32 .f32) (n : Fin 16384) : Fin 32 := (amax_spec x n).choose

theorem best_isBest (x : FVec Ideal S16384x32 .f32) (n : Fin 16384) : IsBest (row x n) (best x n) :=
  (amax_spec x n).choose_spec.1

theorem amax_eq (x : FVec Ideal S16384x32 .f32) (n : Fin 16384) : Ref.amax x (ix1 n) = BitVec.ofNat 32 (best x n) :=
  (amax_spec x n).choose_spec.2

theorem IsBest.eq_best {x : FVec Ideal S16384x32 .f32} {n : Fin 16384} {k : Fin 32} (h : IsBest (row x n) k) : k = best x n :=
  h.unique (best_isBest x n)

/-- Two tables whose rows compare alike have their largest values at the same places. -/
theorem best_congr {x y : FVec Ideal S16384x32 .f32} {n : Fin 16384}
    (h : ∀ k l, row x n k < row x n l ↔ row y n k < row y n l) : best x n = best y n := by
  refine IsBest.eq_best fun l => ?_
  rcases best_isBest x n l with g | ⟨g, g'⟩
  · exact .inl ((h _ _).1 g)
  · refine .inr ⟨le_antisymm (not_lt.1 fun c => ?_) (not_lt.1 fun c => ?_), g'⟩
    · have := (h _ _).2 c; rw [g] at this; exact lt_irrefl _ this
    · have := (h _ _).2 c; rw [g] at this; exact lt_irrefl _ this

end Cert.Proof.Best

end
-- ==== Proof.Trees.lean ====
/-
  The kernel's tree of comparisons finds, in every lane, the first place of the largest value; and the lanes of subcore `w`'s
  groups are the rows of the tables.
-/
module

public import proofs.«01_k».proof.Proof.Run
public import proofs.«01_k».proof.Proof.Argmax

@[expose] public section

noncomputable section

namespace Cert.Proof.Hist

open Cert.KernelIdeal Cert.KernelIdeal.Gen
open Idealize.ShloMosaic Idealize.ShloMosaic.ValueIdx
open Cert.Proof.Best

/-- `p` holds the first largest of the values at places `lo` up to `hi`, and its place. -/
def Wins (v : Fin 32 → EReal) (lo hi : ℕ) (p : EReal × BitVec 32) : Prop :=
  ∃ k : Fin 32, lo ≤ k.val ∧ k.val < hi ∧ p = (v k, BitVec.ofNat 32 k.val)
    ∧ ∀ l : Fin 32, lo ≤ l.val → l.val < hi → v l < v k ∨ (v l = v k ∧ k ≤ l)

theorem Wins.join {v : Fin 32 → EReal} {lo mid hi : ℕ} {a b : EReal × BitVec 32} (ha : Wins v lo mid a) (hb : Wins v mid hi b) :
    Wins v lo hi (max a.1 b.1, if b.1 ≤ a.1 then a.2 else b.2) := by
  obtain ⟨i, hi1, hi2, rfl, hi3⟩ := ha
  obtain ⟨j, hj1, hj2, rfl, hj3⟩ := hb
  by_cases h : v j ≤ v i
  · refine ⟨i, hi1, by omega, by simp [h], fun l h1 h2 => ?_⟩
    by_cases hl : l.val < mid
    · exact hi3 l h1 hl
    · have hil : i ≤ l := by rw [Fin.le_def]; omega
      rcases hj3 l (by omega) h2 with g | ⟨g, _⟩
      · exact .inl (g.trans_le h)
      · rw [g]
        rcases lt_or_eq_of_le h with h | h
        · exact .inl h
        · exact .inr ⟨h, hil⟩
  · have h' : v i < v j := not_le.1 h
    refine ⟨j, by omega, hj2, by simp [h, h'.le], fun l h1 h2 => ?_⟩
    by_cases hl : l.val < mid
    · rcases hi3 l h1 hl with g | ⟨g, _⟩
      · exact .inl (g.trans h')
      · rw [g]; exact .inl h'
    · exact hj3 l (by omega) h2

/-- One lane of a pair of vectors. -/
def lane (p : FVec Ideal S16 .f32 × IVec S16 32) (l : S16.Idx) : EReal × BitVec 32 := (p.1 l, p.2 l)

theorem lane_node (a b : FVec Ideal S16 .f32 × IVec S16 32) (l : S16.Idx) :
    lane (node a b) l = (max (lane a l).1 (lane b l).1, if (lane b l).1 ≤ (lane a l).1 then (lane a l).2 else (lane b l).2) := by
  refine Prod.ext rfl ?_
  show (if BitVec.ofBool (decide (b.1 l ≤ a.1 l)) = 1#1 then a.2 l else b.2 l) = if b.1 l ≤ a.1 l then a.2 l else b.2 l
  by_cases h : b.1 l ≤ a.1 l <;> simp [h]

theorem wins_node {v : Fin 32 → FVec Ideal S16 .f32} {lo mid hi : ℕ} {a b : FVec Ideal S16 .f32 × IVec S16 32} {l : S16.Idx}
    (ha : Wins (fun k => v k l) lo mid (lane a l)) (hb : Wins (fun k => v k l) mid hi (lane b l)) :
    Wins (fun k => v k l) lo hi (lane (node a b) l) := by
  rw [lane_node]; exact ha.join hb

theorem wins_leaf (v : Fin 32 → FVec Ideal S16 .f32) (k : Fin 32) (l : S16.Idx) :
    Wins (fun k => v k l) k.val (k.val + 1) (lane (leaf v k) l) :=
  ⟨k, le_refl _, Nat.lt_succ_self _, rfl, fun m h1 h2 => .inr ⟨by rw [show m = k from Fin.ext (by omega)], by rw [Fin.le_def]; omega⟩⟩

theorem wins_tree1 (v : Fin 32 → FVec Ideal S16 .f32) (k : Fin 16) (l : S16.Idx) :
    Wins (fun k => v k l) (2 * k.val) (2 * k.val + 2) (lane (tree1 v k) l) :=
  wins_node (wins_leaf v ⟨2 * k.val, by omega⟩ l) (wins_leaf v ⟨2 * k.val + 1, by omega⟩ l)

theorem wins_tree2 (v : Fin 32 → FVec Ideal S16 .f32) (k : Fin 8) (l : S16.Idx) :
    Wins (fun k => v k l) (4 * k.val) (4 * k.val + 4) (lane (tree2 v k) l) := by
  have h1 := wins_tree1 v ⟨2 * k.val, by omega⟩ l
  have h2 := wins_tree1 v ⟨2 * k.val + 1, by omega⟩ l
  have e1 : 2 * (2 * k.val) = 4 * k.val := by omega
  have e2 : 2 * (2 * k.val + 1) = 4 * k.val + 2 := by omega
  simp only [e1] at h1
  simp only [e2] at h2
  exact wins_node h1 h2

theorem wins_tree3 (v : Fin 32 → FVec Ideal S16 .f32) (k : Fin 4) (l : S16.Idx) :
    Wins (fun k => v k l) (8 * k.val) (8 * k.val + 8) (lane (tree3 v k) l) := by
  have h1 := wins_tree2 v ⟨2 * k.val, by omega⟩ l
  have h2 := wins_tree2 v ⟨2 * k.val + 1, by omega⟩ l
  have e1 : 4 * (2 * k.val) = 8 * k.val := by omega
  have e2 : 4 * (2 * k.val + 1) = 8 * k.val + 4 := by omega
  simp only [e1] at h1
  simp only [e2] at h2
  exact wins_node h1 h2

theorem wins_chain (v : Fin 32 → FVec Ideal S16 .f32) (l : S16.Idx) : Wins (fun k => v k l) 0 32 (lane (chain v) l) :=
  wins_node (wins_node (wins_node (wins_tree3 v 0 l) (wins_tree3 v 1 l)) (wins_tree3 v 2 l)) (wins_tree3 v 3 l)

/-- Each lane's winning class is the first place of the lane's largest value. -/
theorem argTree_isBest (v : Fin 32 → FVec Ideal S16 .f32) (l : S16.Idx) :
    ∃ k : Fin 32, IsBest (fun k => v k l) k ∧ argTree v l = BitVec.ofNat 32 k.val := by
  obtain ⟨k, _, _, he, h⟩ := wins_chain v l
  exact ⟨k, fun m => h m (Nat.zero_le _) m.isLt, congrArg Prod.snd he⟩

/-- The class-major table, read at a class and a row. -/
theorem table_at (x : FVec Ideal S16384x32 .f32) (n : Fin 16384) (k : Fin 32) (m : ℕ) (hm : m = 16384 * k.val + n.val) :
    table x (at524288 m) = x (ix2 n k) := by
  subst hm
  unfold table
  refine (shapeCast_apply _ _ _ (ix2 k n : S32x16384.Idx) ?_).trans ?_
  · rw [Shape.rowMajor_val_two, Shape.rowMajor_val_one]
    show k.val * 16384 + n.val = (16384 * k.val + n.val) % 524288
    have := k.isLt; have := n.isLt; omega
  · refine transpose_apply _ _ _ _ _ fun b => ?_
    match b with
    | ⟨0, _⟩ => rfl
    | ⟨1, _⟩ => rfl

/-- Lane `l` of subcore `w`'s group `t` is row `512 w + 16 t + l`. -/
theorem blk_at (x : FVec Ideal S16384x32 .f32) (w t : ℕ) (l : S16.Idx) (n : Fin 16384) (ht : t < 32)
    (hn : n.val = 512 * w + 16 * t + (l 0).val) (k : Fin 32) : blk (stage (table x) w) t k l = x (ix2 n k) := by
  have hl : (l 0).val < 16 := (l 0).isLt
  have hk := k.isLt
  show table x (at524288 _) = _
  refine table_at x n k _ ?_
  show 16384 * ((512 * k.val + 16 * t + (l 0).val) % 16384 / 512) + (512 * w + (512 * k.val + 16 * t + (l 0).val) % 16384 % 512) = _
  omega

/-- The winning class of a lane is the place of its row's first maximum. -/
theorem argTree_blk (x : FVec Ideal S16384x32 .f32) (w t : ℕ) (l : S16.Idx) (n : Fin 16384) (ht : t < 32)
    (hn : n.val = 512 * w + 16 * t + (l 0).val) : argTree (blk (stage (table x) w) t) l = BitVec.ofNat 32 (best x n).val := by
  obtain ⟨k, hk, he⟩ := argTree_isBest (blk (stage (table x) w) t) l
  rw [he]
  have : (fun k => blk (stage (table x) w) t k l) = row x n := funext fun k => blk_at x w t l n ht hn k
  rw [this] at hk
  rw [hk.eq_best]

end Cert.Proof.Hist

end
-- ==== Proof.Bins.lean ====
/-
  The bins as counts: what a masked, adding indexed store of ones does, one group's step, all groups, and the row of 96 summed
  over the lanes.
-/
module

public import proofs.«01_k».proof.Proof.Run
public import Idealize.ShloMosaic.PureOps.Ideal.Laws
public import Idealize.ShloMosaic.Lib.IdealHost

@[expose] public section

noncomputable section

namespace Cert.Proof.Hist

open Cert.KernelIdeal Cert.KernelIdeal.Gen
open Idealize.ShloMosaic

/-- One when it holds, else zero. -/
def ind (p : Prop) [Decidable p] : EReal := if p then 1 else 0

theorem ind_congr {p q : Prop} [Decidable p] [Decidable q] (h : p ↔ q) : ind p = ind q := by
  unfold ind; exact if_congr h rfl rfl

theorem ind_false {p : Prop} [Decidable p] (h : ¬ p) : ind p = 0 := if_neg h
theorem ind_true {p : Prop} [Decidable p] (h : p) : ind p = 1 := if_pos h

/-- Lane `k` of a vector of sixteen. -/
abbrev ln (k : Fin 16) : S16.Idx := Shape.ofLane (d := ![16]) k

/-- One lane's part of an adding indexed store of ones. -/
def putOne (ix : IVec S16 32) (mask : IVec S16 1) (B : FVec Ideal S1536 .f32) (k : Fin 16) : FVec Ideal S1536 .f32 :=
  fun j => B j + ind (mask (ln k) = 1#1 ∧ (j 0).val = (ix (ln k)).toNat)

theorem foldl_putOne (ix : IVec S16 32) (mask : IVec S16 1) (L : List (Fin 16)) (B : FVec Ideal S1536 .f32) (j : S1536.Idx) :
    L.foldl (putOne ix mask) B j = B j + (L.map fun k => ind (mask (ln k) = 1#1 ∧ (j 0).val = (ix (ln k)).toNat)).sum := by
  induction L generalizing B with
  | nil => exact (add_zero (B j)).symm
  | cons a L ih => rw [List.foldl_cons, ih, List.map_cons, List.sum_cons, ← add_assoc]; rfl

theorem storeIdx_eq (B : FVec Ideal S1536 .f32) (ix : IVec S16 32) (mask : IVec S16 1)
    (h : ∀ (a : Fin S1536.rank) x, ((![ix] : Fin 1 → IVec S16 32) a x).toNat < S1536.size a) :
    (storeIdx (F := Ideal) (e := .f32) B ![ix] (k1_pay73 (F := Ideal)) mask true h : FVec Ideal S1536 .f32)
      = (List.finRange 16).foldl (putOne ix mask) B := by
  unfold storeIdx
  refine congrArg (fun f => (List.finRange 16).foldl f B) (a₂ := putOne ix mask) (funext fun g => funext fun a => funext fun j => ?_)
  show (ite (mask (ln a) = 1) _ _ : Vec Ideal S1536 .f32) j = (g j : EReal) + ind _
  by_cases hm : mask (ln a) = 1#1
  · refine (congrFun (if_pos hm) j).trans ?_
    by_cases hj : (j 0).val = (ix (ln a)).toNat
    · have hj' : ∀ b : Fin S1536.rank, (j b).val = (idxAt ![ix] h (ln a) b).val := fun b => by
        obtain rfl : b = 0 := Subsingleton.elim _ _
        exact hj
      have hi : idxAt ![ix] h (ln a) = j := funext fun b => Fin.ext (hj' b).symm
      rw [ind_true ⟨hm, hj⟩]
      refine (if_pos hj').trans ?_
      rw [hi]
      show (g j : EReal) + Ideal.ofBits .f32 0x3F800000#32 = _
      rw [Ideal.ofBits_one_f32]
    · rw [ind_false fun h => hj h.2]
      refine (if_neg fun h => hj (h 0)).trans (add_zero _).symm
  · rw [ind_false fun h => hm h.1]
    exact (congrFun (if_neg hm) j).trans (add_zero _).symm

/-- An adding indexed store of ones adds, at every bin, the number of set lanes that name it. -/
theorem storeIdx_ones (B : FVec Ideal S1536 .f32) (ix : IVec S16 32) (mask : IVec S16 1)
    (h : ∀ (a : Fin S1536.rank) x, ((![ix] : Fin 1 → IVec S16 32) a x).toNat < S1536.size a) (j : S1536.Idx) :
    (storeIdx (F := Ideal) (e := .f32) B ![ix] (k1_pay73 (F := Ideal)) mask true h : FVec Ideal S1536 .f32) j
      = B j + ∑ k : Fin 16, ind (mask (ln k) = 1#1 ∧ (j 0).val = (ix (ln k)).toNat) := by
  rw [storeIdx_eq, foldl_putOne, ← List.ofFn_eq_map, List.sum_ofFn]

/-- Whether section `s` counts class `c` for a row of true class `g` and predicted class `x`. -/
abbrev Hit (s g x c : ℕ) : Prop := (s = 0 ∧ g = c) ∨ (s = 1 ∧ x = c) ∨ (s = 2 ∧ g = c ∧ x = c)

theorem sum_lane (l : Fin 16) (q : Fin 16 → Prop) [DecidablePred q] (p : Prop) [Decidable p] (h : ∀ k, q k ↔ k = l ∧ p) :
    ∑ k : Fin 16, ind (q k) = ind p := by
  rw [Finset.sum_eq_single l (fun b _ hb => ind_false fun hq => hb ((h b).1 hq).1) fun hc => absurd (Finset.mem_univ _) hc]
  exact ind_congr ⟨fun hq => ((h l).1 hq).2, fun hp => (h l).2 ⟨rfl, hp⟩⟩

/-- One group's step at bin `c` of lane `l` in section `s`. -/
theorem step_at (x g : Fin 32 → FVec Ideal S16 .f32) (B : FVec Ideal S1536 .f32) (s c : ℕ) (l : Fin 16) (hs : s < 3) (hc : c < 32) :
    step x g B (at1536 (512 * s + 32 * l.val + c))
      = B (at1536 (512 * s + 32 * l.val + c)) + ind (Hit s (argTree g (ln l)).toNat (argTree x (ln l)).toNat c) := by
  have hl := l.isLt
  have hj : ((at1536 (512 * s + 32 * l.val + c)) 0).val = 512 * s + 32 * l.val + c := by
    show (512 * s + 32 * l.val + c) % 1536 = _
    omega
  unfold step
  rw [storeIdx_ones, storeIdx_ones, storeIdx_ones, hj]
  have hlane : ∀ k : Fin 16, ((ln k) 0).val = k.val := fun _ => rfl
  rw [sum_lane l _ (s = 0 ∧ (argTree g (ln l)).toNat = c) fun k => by
      rw [ixA_toNat (argTree_lt g), hlane]
      have := argTree_lt g (ln k)
      have hk := k.isLt
      constructor
      · rintro ⟨_, e⟩
        obtain rfl : k = l := Fin.ext (by omega)
        exact ⟨rfl, by omega, by omega⟩
      · rintro ⟨rfl, e, e'⟩
        exact ⟨rfl, by omega⟩,
    sum_lane l _ (s = 1 ∧ (argTree x (ln l)).toNat = c) fun k => by
      rw [ixB_toNat (argTree_lt x), hlane]
      have := argTree_lt x (ln k)
      have hk := k.isLt
      constructor
      · rintro ⟨_, e⟩
        obtain rfl : k = l := Fin.ext (by omega)
        exact ⟨rfl, by omega, by omega⟩
      · rintro ⟨rfl, e, e'⟩
        exact ⟨rfl, by omega⟩,
    sum_lane l _ (s = 2 ∧ (argTree g (ln l)).toNat = c ∧ (argTree x (ln l)).toNat = c) fun k => by
      rw [ixC_toNat (argTree_lt g), hlane]
      have := argTree_lt g (ln k)
      have hk := k.isLt
      have hm : cmpi .eq (argTree g) (argTree x) (ln k) = 1#1 ↔ (argTree g (ln k)).toNat = (argTree x (ln k)).toNat := by
        show BitVec.ofBool (argTree g (ln k) == argTree x (ln k)) = 1#1 ↔ _
        by_cases e : argTree g (ln k) = argTree x (ln k)
        · simp [e]
        · have e' : ¬ (argTree g (ln k)).toNat = (argTree x (ln k)).toNat := fun h => e (BitVec.eq_of_toNat_eq h)
          have e2 : (argTree g (ln k) == argTree x (ln k)) = false := beq_eq_false_iff_ne.2 e
          rw [e2]; simp [e']
      rw [hm]
      constructor
      · rintro ⟨e0, e⟩
        obtain rfl : k = l := Fin.ext (by omega)
        exact ⟨rfl, by omega, by omega, by omega⟩
      · rintro ⟨rfl, e, e', e''⟩
        exact ⟨by omega, by omega⟩]
  rw [add_assoc, add_assoc]
  congr 1
  unfold ind Hit
  by_cases h0 : s = 0
  · subst h0; simp
  by_cases h1 : s = 1
  · subst h1; simp
  obtain rfl : s = 2 := by omega
  simp

/-- The bins after `n` groups count the rows of those groups. -/
theorem bins_at (X G : FVec Ideal S16384 .f32) (s c : ℕ) (l : Fin 16) (hs : s < 3) (hc : c < 32) (n : ℕ) :
    bins X G n (at1536 (512 * s + 32 * l.val + c))
      = ∑ t ∈ Finset.range n, ind (Hit s (argTree (blk G t) (ln l)).toNat (argTree (blk X t) (ln l)).toNat c) := by
  induction n with
  | zero => exact Ideal.ofBits_zero_f32
  | succ n ih => rw [Finset.sum_range_succ, ← ih]; exact step_at _ _ _ s c l hs hc

theorem binSum_at (B : FVec Ideal S1536 .f32) (o n : ℕ) (i : S16.Idx) :
    binSum B o n i = ∑ l ∈ Finset.range n, B (at1536 (o + 32 * l + (i 0).val)) := by
  induction n with
  | zero => exact Ideal.ofBits_zero_f32
  | succ n ih => rw [Finset.sum_range_succ, ← ih]; rfl

/-- Section `s`, class `c` of the row of 96 from the bins after 32 groups. -/
theorem resOf_at (X G : FVec Ideal S16384 .f32) (s c : ℕ) (hs : s < 3) (hc : c < 32) (m : Fin 96) (hm : m.val = 32 * s + c) :
    resOf (bins X G 32) (Shape.ofLane (d := ![96]) m)
      = ∑ l : Fin 16, ∑ t ∈ Finset.range 32, ind (Hit s (argTree (blk G t) (ln l)).toNat (argTree (blk X t) (ln l)).toNat c) := by
  unfold resOf
  rw [binSum_at, Finset.sum_range]
  refine Finset.sum_congr rfl fun l _ => ?_
  rw [← bins_at X G s c l hs hc 32]
  congr 2
  show 512 * (m.val / 32) + 16 * (m.val % 32 / 16) + 32 * l.val + m.val % 16 = _
  omega

end Cert.Proof.Hist

end
-- ==== Proof.Sums.lean ====
/-
  Sums over the indices of vectors, as sums over their one long axis; sums of nested ranges; sums of truth values as counts.
-/
module

public import Idealize.ShloMosaic.Lib.ValueIdxCore
public import proofs.«01_k».proof.Proof.Bins

@[expose] public section

noncomputable section

namespace Cert.Proof.Best

open Idealize.ShloMosaic Idealize.ShloMosaic.ValueIdx
open Cert.Proof.Hist (ind ind_true ind_false)

variable {n : ℕ}

/-- The indices of a vector. -/
def along1 (n : ℕ) : Fin n ≃ (⟨1, ![n]⟩ : Shape).Idx where
  toFun k := ix1 k
  invFun i := i 0
  left_inv _ := rfl
  right_inv i := (eq_ix1 i).symm

/-- The indices of a block long along its middle axis. -/
def along2 (n : ℕ) : Fin n ≃ (⟨3, ![1, n, 1]⟩ : Shape).Idx where
  toFun k := ix3 (0 : Fin 1) k (0 : Fin 1)
  invFun i := i 1
  left_inv _ := rfl
  right_inv i := by
    funext a
    match a with
    | ⟨0, _⟩ => exact (Subsingleton.elim (α := Fin 1) _ _)
    | ⟨1, _⟩ => rfl
    | ⟨2, _⟩ => exact (Subsingleton.elim (α := Fin 1) _ _)

/-- The indices of a block long along its last axis. -/
def along3 (n : ℕ) : Fin n ≃ (⟨3, ![1, 1, n]⟩ : Shape).Idx where
  toFun k := ix3 (0 : Fin 1) (0 : Fin 1) k
  invFun i := i 2
  left_inv _ := rfl
  right_inv i := by
    funext a
    match a with
    | ⟨0, _⟩ => exact (Subsingleton.elim (α := Fin 1) _ _)
    | ⟨1, _⟩ => exact (Subsingleton.elim (α := Fin 1) _ _)
    | ⟨2, _⟩ => rfl

theorem sum_along1 (f : (⟨1, ![n]⟩ : Shape).Idx → EReal) : ∑ i, f i = ∑ k : Fin n, f (ix1 k) := ((along1 n).sum_comp f).symm
theorem sum_along2 (f : (⟨3, ![1, n, 1]⟩ : Shape).Idx → EReal) : ∑ i, f i = ∑ k : Fin n, f (ix3 (0 : Fin 1) k (0 : Fin 1)) :=
  ((along2 n).sum_comp f).symm
theorem sum_along3 (f : (⟨3, ![1, 1, n]⟩ : Shape).Idx → EReal) : ∑ i, f i = ∑ k : Fin n, f (ix3 (0 : Fin 1) (0 : Fin 1) k) :=
  ((along3 n).sum_comp f).symm

/-- A sum over blocks of a block's places is a sum over all places. -/
theorem sum_range_blocks (f : ℕ → EReal) (n m : ℕ) :
    ∑ a ∈ Finset.range m, ∑ b ∈ Finset.range n, f (n * a + b) = ∑ i ∈ Finset.range (n * m), f i := by
  induction m with
  | zero => simp
  | succ m ih => rw [Finset.sum_range_succ, ih, Nat.mul_succ, Finset.sum_range_add]

/-- How many rows satisfy `p`. -/
def cnt (p : Fin 16384 → Prop) [DecidablePred p] : ℕ := (Finset.univ.filter p).card

theorem sum_ind (p : Fin 16384 → Prop) [DecidablePred p] : ∑ n, ind (p n) = ((cnt p : ℝ) : EReal) := by
  unfold cnt ind
  rw [Finset.card_filter]
  have : ∀ s : Finset (Fin 16384), (∑ n ∈ s, (if p n then (1 : EReal) else 0)) = (((∑ n ∈ s, if p n then 1 else 0 : ℕ) : ℝ) : EReal) := by
    intro s
    induction s using Finset.induction_on with
    | empty => simp
    | insert a s ha ih =>
        rw [Finset.sum_insert ha, Finset.sum_insert ha, ih, Nat.cast_add, EReal.coe_add]
        congr 1
        split <;> simp
  exact this _

/-- A sum of one weight over the rows that satisfy `p`. -/
theorem sum_ind_mul {ι : Type} (s : Finset ι) (p : ι → Prop) [DecidablePred p] (w : EReal) :
    ∑ n ∈ s, ind (p n) * w = (∑ n ∈ s, ind (p n)) * w := by
  classical
  have h0 : ∀ s : Finset ι, 0 ≤ ∑ n ∈ s, ind (p n) := fun s => Finset.sum_nonneg fun n _ => by
    unfold ind; split <;> simp
  induction s using Finset.induction_on with
  | empty => simp
  | insert a s ha ih =>
      rw [Finset.sum_insert ha, Finset.sum_insert ha, ih, EReal.right_distrib_of_nonneg _ (h0 s)]
      unfold ind; split <;> simp

/-- A sum over the classes of a truth value that fixes the class. -/
theorem sum_class (k : Fin 32) (q : Prop) [Decidable q] : ∑ c : Fin 32, ind (k = c ∧ q) = ind q := by
  rw [Finset.sum_eq_single k (fun b _ hb => ind_false fun h => hb h.1.symm) fun h => absurd (Finset.mem_univ _) h]
  unfold ind; simp

/-- The weights of the rows' classes, summed row by row and class by class. -/
theorem sum_weights (k : Fin 16384 → Fin 32) (w : Fin 32 → EReal) :
    ∑ n, w (k n) = ∑ c, ((cnt fun n => k n = c : ℝ) : EReal) * w c := by
  have h : ∀ n, w (k n) = ∑ c, ind (k n = c) * w c := fun n => by
    rw [Finset.sum_eq_single (k n) (fun b _ hb => by rw [ind_false fun h => hb h.symm, zero_mul])
      fun h => absurd (Finset.mem_univ _) h, ind_true rfl, one_mul]
  rw [Finset.sum_congr rfl fun n _ => h n, Finset.sum_comm]
  refine Finset.sum_congr rfl fun c _ => ?_
  rw [sum_ind_mul, sum_ind]

end Cert.Proof.Best

end
-- ==== Proof.Counts.lean ====
/-
  The thirty-two parts summed: how many rows have a true class, a predicted class, or both.
-/
module

public import proofs.«01_k».proof.Proof.Trees
public import proofs.«01_k».proof.Proof.Sums

@[expose] public section

noncomputable section

namespace Cert.Proof.Hist

open Cert.KernelIdeal Cert.KernelIdeal.Gen
open Idealize.ShloMosaic Idealize.ShloMosaic.ValueIdx
open Cert.Proof.Best

/-- Whether row `n` counts in section `s` at class `c`. -/
abbrev Counted (x g : FVec Ideal S16384x32 .f32) (s c : ℕ) (n : Fin 16384) : Prop := Hit s (best g n).val (best x n).val c

theorem toNat_class (k : Fin 32) : (BitVec.ofNat 32 k.val).toNat = k.val := by
  rw [BitVec.toNat_ofNat]; have := k.isLt; omega

/-- One tile's part, over its 512 rows. -/
theorem part_at (x g : FVec Ideal S16384x32 .f32) (s c : ℕ) (hs : s < 3) (hc : c < 32) (w : Fin 32) (m : Fin 96)
    (hm : m.val = 32 * s + c) :
    parts (table x) (table g) (ix2 w m : S32x96.Idx)
      = ∑ t ∈ Finset.range 32, ∑ l ∈ Finset.range 16,
          (fun n => if h : n < 16384 then ind (Counted x g s c ⟨n, h⟩) else 0) (512 * w.val + (16 * t + l)) := by
  refine (resOf_at (stage (table x) w.val) (stage (table g) w.val) s c hs hc m hm).trans ?_
  rw [Finset.sum_comm]
  refine Finset.sum_congr rfl fun t ht => ?_
  rw [Finset.sum_range]
  refine Finset.sum_congr rfl fun l _ => ?_
  have ht := Finset.mem_range.1 ht
  have hl := l.isLt
  have hw := w.isLt
  have hn : 512 * w.val + (16 * t + l.val) < 16384 := by omega
  have h2 : (⟨512 * w.val + (16 * t + l.val), hn⟩ : Fin 16384).val = 512 * w.val + 16 * t + ((ln l) 0).val := by
    show 512 * w.val + (16 * t + l.val) = 512 * w.val + 16 * t + l.val
    omega
  beta_reduce
  rw [dif_pos hn]
  refine ind_congr ?_
  rw [argTree_blk x w.val t (ln l) _ ht h2, argTree_blk g w.val t (ln l) _ ht h2, toNat_class, toNat_class]

/-- The parts summed over the tiles, at section `s` and class `c`: the number of rows counted there. -/
theorem parts_sum (x g : FVec Ideal S16384x32 .f32) (s c : ℕ) (hs : s < 3) (hc : c < 32) (m : Fin 96) (hm : m.val = 32 * s + c) :
    ∑ w : Fin 32, parts (table x) (table g) (ix2 w m : S32x96.Idx) = ((cnt (Counted x g s c) : ℝ) : EReal) := by
  rw [Finset.sum_congr rfl fun w _ => part_at x g s c hs hc w m hm]
  generalize hf : (fun n => if h : n < 16384 then ind (Counted x g s c ⟨n, h⟩) else 0 : ℕ → EReal) = f
  have h1 : ∀ w : ℕ, ∑ t ∈ Finset.range 32, ∑ l ∈ Finset.range 16, f (512 * w + (16 * t + l))
      = ∑ b ∈ Finset.range (16 * 32), f (512 * w + b) := fun w => sum_range_blocks (fun n => f (512 * w + n)) 16 32
  rw [Finset.sum_congr rfl fun w _ => h1 w.val, ← Finset.sum_range (fun w => ∑ b ∈ Finset.range (16 * 32), f (512 * w + b)),
    sum_range_blocks f 512 32, ← sum_ind, Finset.sum_range, ← hf]
  refine Finset.sum_congr rfl fun n _ => ?_
  exact dif_pos n.isLt

end Cert.Proof.Hist

end
-- ==== Proof.Confusion.lean ====
/-
  The reference's confusion matrix as counts of rows, its diagonal and its sums, and the summed weights.
-/
module

public import proofs.«01_k».proof.Proof.Argmax
public import proofs.«01_k».proof.Proof.Sums

@[expose] public section

noncomputable section

namespace Cert.Proof.Best

open Cert.ReferenceIdeal Cert.ReferenceIdeal.Gen
open Idealize.ShloMosaic Idealize.ShloMosaic.ValueIdx
open Cert.Proof.Hist (ind ind_true ind_false ind_congr)

/-- A class number is not negative: counting it from the end does not apply. -/
theorem wrapped_at (i : IVec S16384 32) (n : Fin 16384) (k : Fin 32) (h : i (ix1 n) = BitVec.ofNat 32 k.val) (z : Fin 1) :
    Ref.wrapped i (ix2 n z) = BitVec.ofNat 32 k.val := by
  have h0 : ∀ k : Fin 32, (BitVec.ofNat 32 k.val).slt 0#32 = false := by decide
  unfold Ref.wrapped
  rw [bcast_up]
  show (if IntOp.cmpi .slt (i (ix1 n)) 0#32 = 1#1 then IntOp.addi (i (ix1 n)) 32#32 else i (ix1 n)) = _
  rw [h]
  show (if BitVec.ofBool ((BitVec.ofNat 32 k.val).slt 0#32) = 1#1 then _ else _) = _
  rw [h0]
  simp

theorem class_toInt (k : Fin 32) : (BitVec.ofNat 32 k.val).toInt = (k.val : ℤ) := by
  revert k; decide

/-- The pairs of true and predicted class, as the scatter's indices. -/
def pairs (g p : IVec S16384 32) : IVec S16384x2 32 :=
  concatenate S16384x2 1 [⟨S16384x1, Ref.wrapped g⟩, ⟨S16384x1, Ref.wrapped p⟩] concatenates_S16384x1_S16384x1_S16384x2_d1

theorem pairs_left (g p : IVec S16384 32) (n : Fin 16384) : pairs g p (ix2 n (0 : Fin 2)) = Ref.wrapped g (ix2 n (0 : Fin 1)) := by
  refine concatenate_pair_apply_left (t := S16384x2) 1 (Ref.wrapped g) (Ref.wrapped p) concatenates_S16384x1_S16384x1_S16384x2_d1
    (ix2 n (0 : Fin 2)) rfl (ix2 n (0 : Fin 1)) fun b => ?_
  match b with
  | ⟨0, _⟩ => rfl
  | ⟨1, _⟩ => rfl

theorem pairs_right (g p : IVec S16384 32) (n : Fin 16384) : pairs g p (ix2 n (1 : Fin 2)) = Ref.wrapped p (ix2 n (0 : Fin 1)) := by
  refine concatenate_pair_apply_right (t := S16384x2) 1 (Ref.wrapped g) (Ref.wrapped p) concatenates_S16384x1_S16384x1_S16384x2_d1
    (ix2 n (1 : Fin 2)) rfl rfl (ix2 n (0 : Fin 1)) (fun b hb => ?_) rfl
  match b with
  | ⟨0, _⟩ => rfl
  | ⟨1, _⟩ => exact absurd rfl hb

/-- Row `n`'s one is added at its true and its predicted class. -/
theorem resultIdx_at (g p : IVec S16384 32) (n : Fin 16384) (a b : Fin 32)
    (ha : g (ix1 n) = BitVec.ofNat 32 a.val) (hb : p (ix1 n) = BitVec.ofNat 32 b.val) :
    scatter_S32x32_S16384x2_S16384_n_01_01_1.resultIdx? (ix1 n) (pairs g p) = some (ix2 a b) := by
  have hs0 : scatter_S32x32_S16384x2_S16384_n_01_01_1.start (ix1 n) (pairs g p) 0 = (a.val : ℤ) := by
    have : scatter_S32x32_S16384x2_S16384_n_01_01_1.start (ix1 n) (pairs g p) 0 = (pairs g p (ix2 n (0 : Fin 2))).toInt := by
      unfold ScatterDims.start
      rw [dif_pos (by decide)]
      congr 2
      funext c
      match c with
      | ⟨0, _⟩ => rfl
      | ⟨1, _⟩ => rfl
    rw [this, pairs_left, wrapped_at g n a ha, class_toInt]
  have hs1 : scatter_S32x32_S16384x2_S16384_n_01_01_1.start (ix1 n) (pairs g p) 1 = (b.val : ℤ) := by
    have : scatter_S32x32_S16384x2_S16384_n_01_01_1.start (ix1 n) (pairs g p) 1 = (pairs g p (ix2 n (1 : Fin 2))).toInt := by
      unfold ScatterDims.start
      rw [dif_pos (by decide)]
      congr 2
      funext c
      match c with
      | ⟨0, _⟩ => rfl
      | ⟨1, _⟩ => rfl
    rw [this, pairs_right, wrapped_at p n b hb, class_toInt]
  have hw : ∀ c, scatter_S32x32_S16384x2_S16384_n_01_01_1.window (ix1 n) c = 0 := fun c => by
    unfold ScatterDims.window
    rw [dif_neg]
    revert c; decide
  unfold ScatterDims.resultIdx?
  have hall : ∀ c, 0 ≤ scatter_S32x32_S16384x2_S16384_n_01_01_1.start (ix1 n) (pairs g p) c
        + scatter_S32x32_S16384x2_S16384_n_01_01_1.window (ix1 n) c
      ∧ scatter_S32x32_S16384x2_S16384_n_01_01_1.start (ix1 n) (pairs g p) c
        + scatter_S32x32_S16384x2_S16384_n_01_01_1.window (ix1 n) c < S32x32.size c := fun c => by
    rw [hw]
    match c with
    | ⟨0, _⟩ =>
        refine (show _ ∧ _ from ?_)
        erw [hs0]
        have := a.isLt
        exact ⟨by omega, by show (a.val : ℤ) + (0 : ℕ) < (32 : ℕ); omega⟩
    | ⟨1, _⟩ =>
        erw [hs1]
        have := b.isLt
        exact ⟨by omega, by show (b.val : ℤ) + (0 : ℕ) < (32 : ℕ); omega⟩
  rw [dif_pos hall]
  refine congrArg some (funext fun c => Fin.ext ?_)
  match c with
  | ⟨0, _⟩ =>
      show (scatter_S32x32_S16384x2_S16384_n_01_01_1.start (ix1 n) (pairs g p) 0
        + scatter_S32x32_S16384x2_S16384_n_01_01_1.window (ix1 n) 0).toNat = a.val
      rw [hw, hs0]; omega
  | ⟨1, _⟩ =>
      show (scatter_S32x32_S16384x2_S16384_n_01_01_1.start (ix1 n) (pairs g p) 1
        + scatter_S32x32_S16384x2_S16384_n_01_01_1.window (ix1 n) 1).toNat = b.val
      rw [hw, hs1]; omega

variable {g p : IVec S16384 32} {G P : Fin 16384 → Fin 32}

/-- The confusion matrix counts the rows of each pair of classes. -/
theorem conf_at (hg : ∀ n, g (ix1 n) = BitVec.ofNat 32 (G n).val) (hp : ∀ n, p (ix1 n) = BitVec.ofNat 32 (P n).val) (a b : Fin 32) :
    Ref.conf (F := Ideal) g p (ix2 a b) = ∑ n, ind (G n = a ∧ P n = b) := by
  have h : Ref.conf (F := Ideal) g p (ix2 a b) = Ideal.ofBits .f32 0x00000000#32
      + ∑ j ∈ Finset.univ.filter (fun j : S16384.Idx => scatter_S32x32_S16384x2_S16384_n_01_01_1.resultIdx? j (pairs g p) = some (ix2 a b)),
        Ideal.ofBits .f32 0x3F800000#32 := rfl
  rw [h, Ideal.ofBits_zero_f32, zero_add, Ideal.ofBits_one_f32, Finset.sum_filter, sum_along1]
  refine Finset.sum_congr rfl fun n _ => ?_
  rw [resultIdx_at g p n (G n) (P n) (hg n) (hp n)]
  unfold ind
  refine if_congr ?_ rfl rfl
  rw [Option.some.injEq]
  constructor
  · intro e; exact ⟨congrFun e 0, congrFun e 1⟩
  · rintro ⟨rfl, rfl⟩; rfl

theorem reduces_down : S32x32.Reduces [0] S32 := by decide
theorem reduces_across : S32x32.Reduces [1] S32 := by decide

theorem lift_down (b a : Fin 32) : reduces_down.lift (ix1 b) a = (ix2 a b : S32x32.Idx) := by
  funext c
  match c with
  | ⟨0, _⟩ => rfl
  | ⟨1, _⟩ => rfl

theorem lift_across (a b : Fin 32) : reduces_across.lift (ix1 a) b = (ix2 a b : S32x32.Idx) := by
  funext c
  match c with
  | ⟨0, _⟩ => rfl
  | ⟨1, _⟩ => rfl

theorem sum_down (c : FVec Ideal S32x32 .f32) (b : Fin 32) :
    Host.reduceAdd c (constant S_ .f32 0x00000000#32) reducesTo_S32x32_S32_d0 h_S_ (ix1 b) = ∑ a : Fin 32, c (ix2 a b) := by
  show Ideal.hostReduceAdd _ c (Ideal.ofBits .f32 0x00000000#32) (ix1 b) = _
  rw [Ideal.hostReduceAdd_single _ reduces_down, Ideal.ofBits_zero_f32, zero_add]
  exact Finset.sum_congr rfl fun a _ => congrArg c (lift_down b a)

theorem sum_across (c : FVec Ideal S32x32 .f32) (a : Fin 32) :
    Host.reduceAdd c (constant S_ .f32 0x00000000#32) reducesTo_S32x32_S32_d1 h_S_ (ix1 a) = ∑ b : Fin 32, c (ix2 a b) := by
  show Ideal.hostReduceAdd _ c (Ideal.ofBits .f32 0x00000000#32) (ix1 a) = _
  rw [Ideal.hostReduceAdd_single _ reduces_across, Ideal.ofBits_zero_f32, zero_add]
  exact Finset.sum_congr rfl fun b _ => congrArg c (lift_across a b)

theorem eye_at (a b : Fin 32) : Ref.eye (ix2 a b) = 1#1 ↔ a = b := by
  have h : Ref.eye (ix2 a b) = IntOp.cmpi .eq (BitVec.ofNat 32 a.val) (BitVec.ofNat 32 b.val) := by
    unfold Ref.eye
    show IntOp.cmpi .eq (broadcastInDim _ _ _ _ (ix2 a b)) (broadcastInDim _ _ _ _ (ix2 a b)) = _
    rw [bcast_col, bcast_up, bcast_row, bcast_flat]
    rfl
  rw [h]
  revert a b; decide

/-- The true positives of class `b`: its diagonal entry. -/
theorem tps_at (c : FVec Ideal S32x32 .f32) (b : Fin 32) : Ref.tps c (ix1 b) = c (ix2 b b) := by
  unfold Ref.tps
  rw [sum_down, Finset.sum_eq_single b]
  · show (if Ref.eye (ix2 b b) = 1#1 then c (ix2 b b) else Ideal.ofBits .f32 0x00000000#32) = _
    rw [if_pos ((eye_at b b).2 rfl)]
  · intro a _ hab
    show (if Ref.eye (ix2 a b) = 1#1 then c (ix2 a b) else Ideal.ofBits .f32 0x00000000#32) = 0
    rw [if_neg fun h => hab ((eye_at a b).1 h), Ideal.ofBits_zero_f32]
  · exact fun h => absurd (Finset.mem_univ _) h

theorem conf_down (hg : ∀ n, g (ix1 n) = BitVec.ofNat 32 (G n).val) (hp : ∀ n, p (ix1 n) = BitVec.ofNat 32 (P n).val) (b : Fin 32) :
    ∑ a : Fin 32, Ref.conf (F := Ideal) g p (ix2 a b) = ((cnt fun n => P n = b : ℝ) : EReal) := by
  rw [Finset.sum_congr rfl fun a _ => conf_at hg hp a b, Finset.sum_comm, ← sum_ind]
  exact Finset.sum_congr rfl fun n _ => sum_class (G n) (P n = b)

theorem conf_across (hg : ∀ n, g (ix1 n) = BitVec.ofNat 32 (G n).val) (hp : ∀ n, p (ix1 n) = BitVec.ofNat 32 (P n).val) (a : Fin 32) :
    ∑ b : Fin 32, Ref.conf (F := Ideal) g p (ix2 a b) = ((cnt fun n => G n = a : ℝ) : EReal) := by
  rw [Finset.sum_congr rfl fun b _ => conf_at hg hp a b, Finset.sum_comm, ← sum_ind]
  refine Finset.sum_congr rfl fun n _ => ?_
  rw [← sum_class (P n) (G n = a)]
  exact Finset.sum_congr rfl fun b _ => ind_congr and_comm

theorem gather_at (hg : ∀ n, g (ix1 n) = BitVec.ofNat 32 (G n).val) (w : FVec Ideal S32 .f32) (n : Fin 16384) :
    Host.gather gather_S32_S16384x1_S16384_n_0_n_n_0_1_1 w (Ref.wrapped g) (ix1 n) = w (ix1 (G n)) := by
  refine congrArg w (funext fun c => Fin.ext ?_)
  match c with
  | ⟨0, _⟩ =>
      show gather_S32_S16384x1_S16384_n_0_n_n_0_1_1.start (ix1 n) (Ref.wrapped g) 0
        + gather_S32_S16384x1_S16384_n_0_n_n_0_1_1.batchCoord (ix1 n) 0
        + gather_S32_S16384x1_S16384_n_0_n_n_0_1_1.offCoord (ix1 n) 0 = (G n).val
      rw [GatherDims.batchCoord_eq_zero _ _ _ (by decide), GatherDims.offCoord_eq_zero _ _ _ (by decide)]
      have hs : gather_S32_S16384x1_S16384_n_0_n_n_0_1_1.start (ix1 n) (Ref.wrapped g) 0
          = min (Ref.wrapped g (ix2 n (0 : Fin 1))).toInt.toNat 31 := by
        unfold GatherDims.start
        rw [dif_pos (by decide)]
        refine congrArg (fun i => min (Ref.wrapped g i).toInt.toNat 31) ?_
        funext c
        match c with
        | ⟨0, _⟩ => rfl
        | ⟨1, _⟩ => rfl
      have := (G n).isLt
      rw [hs, wrapped_at g n (G n) (hg n), class_toInt]
      omega

theorem wsum_at (hg : ∀ n, g (ix1 n) = BitVec.ofNat 32 (G n).val) (w : FVec Ideal S32 .f32) :
    Ref.wsum g w ix0 = ∑ c : Fin 32, ((cnt fun n => G n = c : ℝ) : EReal) * w (ix1 c) := by
  unfold Ref.wsum
  show Ideal.hostReduceAdd _ _ (Ideal.ofBits .f32 0x00000000#32) ix0 = _
  rw [Ideal.hostReduceAdd_total _ (fun b => b.elim0), Ideal.ofBits_zero_f32, zero_add, sum_along1,
    ← sum_weights G fun c => w (ix1 c)]
  exact Finset.sum_congr rfl fun n _ => gather_at hg w n

end Cert.Proof.Best

end
-- ==== Proof.Focal.lean ====
/-
  The focal term of one class. On the counts of a class that is confused the rest to one of the Tversky index
  is a positive real number, above the constant the kernel keeps its logarithm away from, and the exponential
  of three quarters of its logarithm is its power.
-/
module

public import Idealize.ShloMosaic.Lib.IdealHost

@[expose] public section

noncomputable section

namespace Cert.Proof.Best

open Idealize.ShloMosaic

theorem ofBits_eps : Ideal.ofBits .f32 0x322BCC77#32 = ((11258999 / 2 ^ 50 : ℝ) : EReal) := by
  simp [Ideal.ofBits, Ideal.ieee, -EReal.coe_mul]; norm_num

theorem ofBits_alpha : Ideal.ofBits .f32 0x3E99999A#32 = ((10066330 / 2 ^ 25 : ℝ) : EReal) := by
  simp [Ideal.ofBits, Ideal.ieee, -EReal.coe_mul]; norm_num

theorem ofBits_beta : Ideal.ofBits .f32 0x3F333333#32 = ((11744051 / 2 ^ 24 : ℝ) : EReal) := by
  simp [Ideal.ofBits, Ideal.ieee, -EReal.coe_mul]; norm_num

theorem ofBits_gamma : Ideal.ofBits .f32 0x3F400000#32 = ((3 / 4 : ℝ) : EReal) := by
  simp [Ideal.ofBits, Ideal.ieee, -EReal.coe_mul]; norm_num

theorem ofBits_low : Ideal.ofBits .f32 0x0DA24260#32 = ((10633824 / 2 ^ 123 : ℝ) : EReal) := by
  simp [Ideal.ofBits, Ideal.ieee, -EReal.coe_mul]; norm_num

/-- What the Tversky index of a class leaves to one, from its true positives, false positives and false negatives. -/
def rest (tp fp fn : EReal) : EReal :=
  Ideal.ofBits .f32 0x3F800000#32 - Ideal.div (tp + Ideal.ofBits .f32 0x322BCC77#32)
    (((tp + fp * Ideal.ofBits .f32 0x3E99999A#32) + fn * Ideal.ofBits .f32 0x3F333333#32) + Ideal.ofBits .f32 0x322BCC77#32)

/-- On real counts the rest is a fraction. -/
theorem rest_coe (h p n : ℝ) (h0 : 0 ≤ h) (p0 : 0 ≤ p) (n0 : 0 ≤ n) :
    rest (h : EReal) (p : EReal) (n : EReal)
      = ((1 - (h + 11258999 / 2 ^ 50) * (1 / (h + p * (10066330 / 2 ^ 25) + n * (11744051 / 2 ^ 24) + 11258999 / 2 ^ 50)) : ℝ) : EReal) := by
  unfold rest
  rw [ofBits_eps, ofBits_alpha, ofBits_beta, Ideal.ofBits_one_f32, ← EReal.coe_mul, ← EReal.coe_mul, ← EReal.coe_add, ← EReal.coe_add,
    ← EReal.coe_add, ← EReal.coe_add, Ideal.div_coe (by positivity), ← EReal.coe_mul, ← EReal.coe_one, ← EReal.coe_sub]

/-- With one wrong row among at most 2^15 the rest is far above the constant. -/
theorem rest_low (h p n : ℝ) (h0 : 0 ≤ h) (p0 : 0 ≤ p) (n0 : 0 ≤ n) (h1 : h ≤ 2 ^ 15) (p1 : p ≤ 2 ^ 15) (n1 : n ≤ 2 ^ 15) (hpn : 1 ≤ p + n) :
    (10633824 / 2 ^ 123 : ℝ)
      ≤ 1 - (h + 11258999 / 2 ^ 50) * (1 / (h + p * (10066330 / 2 ^ 25) + n * (11744051 / 2 ^ 24) + 11258999 / 2 ^ 50)) := by
  have hd : 0 < h + p * (10066330 / 2 ^ 25) + n * (11744051 / 2 ^ 24) + (11258999 / 2 ^ 50 : ℝ) := by positivity
  rw [mul_one_div, le_sub_iff_add_le, ← le_sub_iff_add_le', div_le_iff₀ hd]
  norm_num at *
  nlinarith

/-- Above the constant, the exponential of three quarters of the logarithm is the power. -/
theorem exp_log (y : ℝ) (hy : (10633824 / 2 ^ 123 : ℝ) ≤ y) :
    Ideal.exp (Ideal.ofBits .f32 0x3F400000#32 * Ideal.log (max (y : EReal) (Ideal.ofBits .f32 0x0DA24260#32)))
      = Ideal.pow (y : EReal) (Ideal.ofBits .f32 0x3F400000#32) := by
  have h0 : 0 < y := lt_of_lt_of_le (by positivity) hy
  rw [ofBits_low, ofBits_gamma, max_eq_left (EReal.coe_le_coe_iff.2 hy), Ideal.log_coe, if_neg (not_le.2 h0), ← EReal.coe_mul,
    Ideal.exp_coe, Ideal.pow_coe_coe]
  congr 1
  rw [mul_comm]
  exact (Real.rpow_def_of_pos h0 _).symm

/-- The kernel's focal term of a class and the reference's, on counts: `h` rows in both, `r` of the class, `c` predicted so. -/
theorem focal_term (h r c : ℕ) (hr : h ≤ r) (hc : h ≤ c) (hr1 : r ≤ 16384) (hc1 : c ≤ 16384) (hrc : h < r ∨ h < c) :
    Ideal.exp (Ideal.ofBits .f32 0x3F400000#32 * Ideal.log (max
        (rest ((h : ℝ) : EReal) (((c : ℝ) : EReal) - ((h : ℝ) : EReal)) (((r : ℝ) : EReal) - ((h : ℝ) : EReal)))
        (Ideal.ofBits .f32 0x0DA24260#32)))
      = Ideal.pow (rest ((h : ℝ) : EReal) (((c : ℝ) : EReal) - ((h : ℝ) : EReal)) (((r : ℝ) : EReal) - ((h : ℝ) : EReal)))
          (Ideal.ofBits .f32 0x3F400000#32) := by
  have a1 : (h : ℝ) ≤ r := by exact_mod_cast hr
  have a2 : (h : ℝ) ≤ c := by exact_mod_cast hc
  have a3 : (r : ℝ) ≤ 16384 := by exact_mod_cast hr1
  have a4 : (c : ℝ) ≤ 16384 := by exact_mod_cast hc1
  have a5 : (0 : ℝ) ≤ h := Nat.cast_nonneg h
  have a6 : (1 : ℝ) ≤ (c - h) + (r - h) := by
    have : 2 * h + 1 ≤ c + r := by omega
    have : (2 * h + 1 : ℝ) ≤ c + r := by exact_mod_cast this
    linarith
  rw [← EReal.coe_sub, ← EReal.coe_sub, rest_coe _ _ _ a5 (by linarith) (by linarith)]
  exact exp_log _ (rest_low _ _ _ a5 (by linarith) (by linarith) (by norm_num; linarith) (by norm_num; linarith) (by norm_num; linarith) a6)

end Cert.Proof.Best

end
-- ==== Proof.Soft.lean ====
/-
  A row of real numbers keeps the place of its first maximum under the softmax.
-/
module

public import proofs.«01_k».proof.Proof.Argmax

@[expose] public section

noncomputable section

namespace Cert.Proof.Best

open Idealize.ShloMosaic Idealize.ShloMosaic.ValueIdx
open Cert.ReferenceIdeal Cert.ReferenceIdeal.Gen

theorem reduces_rows : S16384x32.Reduces [1] S16384 := by decide

theorem lift_row (n : Fin 16384) (k : Fin 32) : reduces_rows.lift (ix1 n) k = (ix2 n k : S16384x32.Idx) := by
  funext a
  match a with
  | ⟨0, _⟩ => rfl
  | ⟨1, _⟩ => rfl

theorem ofBits_neg_inf : Ideal.ofBits .f32 0xFF800000#32 = (⊥ : EReal) := by simp [Ideal.ofBits, Ideal.ieee]

theorem hostDivf_at {s : Shape} (a b : FVec Ideal s .f32) (i : s.Idx) : Host.divf a b i = Ideal.div (a i) (b i) := rfl

/-- A sum of real numbers over the classes is a real number. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem rowMax_eq (x : FVec Ideal S16384x32 .f32) (n : Fin 16384) (k : Fin 32) :
    Ref.rowMax x (ix2 n k) = max ⊥ ((Finset.univ : Finset (Fin 32)).fold max ⊥ (row x n)) := by
  unfold Ref.rowMax
  rw [bcast_col, bcast_up]
  show max (Ideal.ofBits .f32 0xFF800000#32) (Host.reduce (max : EReal → EReal → EReal) x
    (constant S_ .f32 0xFF800000#32) reducesTo_S16384x32_S16384_d1 h_S_ (ix1 n)) = _
  rw [Host.reduce_eq_fold_single _ _ _ _ reduces_rows, ofBits_neg_inf]
  show max ⊥ (Finset.fold max (Ideal.ofBits .f32 0xFF800000#32) (x ∘ reduces_rows.lift (ix1 n)) Finset.univ) = _
  rw [ofBits_neg_inf]
  congr 2
  funext k
  exact congrArg x (lift_row n k)

theorem rowSum_eq (x : FVec Ideal S16384x32 .f32) (n : Fin 16384) (k : Fin 1) :
    Ref.rowSum x (ix2 n k) = 0 + ∑ k : Fin 32, row x n k := by
  unfold Ref.rowSum
  rw [bcast_up]
  show Ideal.hostReduceAdd reducesTo_S16384x32_S16384_d1 x (Ideal.ofBits .f32 0x00000000#32) (ix1 n) = _
  rw [Ideal.hostReduceAdd_single _ reduces_rows, Ideal.ofBits_zero_f32]
  congr 1
  exact Finset.sum_congr rfl fun k _ => congrArg x (lift_row n k)

/-- The maximum of a row of real numbers is a real number. -/
theorem rowMax_real (x : FVec Ideal S16384x32 .f32) (n : Fin 16384) (a : Fin 32 → ℝ) (ha : ∀ k, row x n k = (a k : EReal)) :
    ∃ M : ℝ, ∀ k, Ref.rowMax x (ix2 n k) = (M : EReal) := by
  have h : ∃ M : ℝ, (max ⊥ ((Finset.univ : Finset (Fin 32)).fold max ⊥ (row x n)) : EReal) = (M : EReal) := by
    have h1 : ((Finset.univ : Finset (Fin 32)).fold max ⊥ (row x n) : EReal) < ⊤ := by
      rw [Finset.fold_max_lt]
      exact ⟨bot_lt_top, fun k _ => by rw [ha k]; exact EReal.coe_lt_top _⟩
    have h2 : (⊥ : EReal) < (Finset.univ : Finset (Fin 32)).fold max ⊥ (row x n) := by
      rw [Finset.lt_fold_max]
      exact .inr ⟨0, Finset.mem_univ _, by rw [ha 0]; exact EReal.bot_lt_coe _⟩
    rw [max_eq_right bot_le]
    exact ⟨_, (EReal.coe_toReal h1.ne h2.ne').symm⟩
  obtain ⟨M, hM⟩ := h
  exact ⟨M, fun k => by rw [rowMax_eq, hM]⟩

/-- The softmax of a row of real numbers. -/
theorem soft_real (x : FVec Ideal S16384x32 .f32) (n : Fin 16384) (a : Fin 32 → ℝ) (ha : ∀ k, row x n k = (a k : EReal)) :
    ∃ M s : ℝ, 0 < s ∧ ∀ k, row (Ref.soft x) n k = ((Real.exp (a k - M) * (1 / s) : ℝ) : EReal) := by
  obtain ⟨M, hM⟩ := rowMax_real x n a ha
  have he : ∀ k, row (Host.exp (subf x (Ref.rowMax x))) n k = ((Real.exp (a k - M) : ℝ) : EReal) := fun k => by
    show Ideal.exp (row x n k - Ref.rowMax x (ix2 n k)) = _
    rw [ha k, hM k, ← EReal.coe_sub, Ideal.exp_coe]
  refine ⟨M, ∑ k, Real.exp (a k - M), Finset.sum_pos (fun k _ => Real.exp_pos _) ⟨0, Finset.mem_univ _⟩, fun k => ?_⟩
  have h0 : row (Ref.soft x) n k = Ideal.div (row (Host.exp (subf x (Ref.rowMax x))) n k)
      (Ref.rowSum (Host.exp (subf x (Ref.rowMax x))) (ix2 n (0 : Fin 1))) := by
    unfold row Ref.soft
    rw [hostDivf_at, bcast_col]
  rw [h0, rowSum_eq, he k, zero_add, Finset.sum_congr rfl fun k _ => he k, coe_sum, Ideal.div_coe, ← EReal.coe_mul]
  exact (Finset.sum_pos (fun k _ => Real.exp_pos _) ⟨0, Finset.mem_univ _⟩).ne'

theorem best_soft (x : FVec Ideal S16384x32 .f32) (hx : ∀ i, x i ≠ ⊤ ∧ x i ≠ ⊥) (n : Fin 16384) :
    best (Ref.soft x) n = best x n := by
  obtain ⟨M, s, hs, h⟩ := soft_real x n (fun k => (row x n k).toReal)
    fun k => (EReal.coe_toReal (hx (ix2 n k)).1 (hx (ix2 n k)).2).symm
  refine best_congr fun k l => ?_
  rw [h k, h l, EReal.coe_lt_coe_iff, mul_lt_mul_iff_left₀ (by positivity), Real.exp_lt_exp, sub_lt_sub_iff_right]
  have e : ∀ m, row x n m = ((row x n m).toReal : EReal) := fun m => (EReal.coe_toReal (hx (ix2 n m)).1 (hx (ix2 n m)).2).symm
  rw [← EReal.coe_lt_coe_iff, ← e, ← e]

end Cert.Proof.Best

end
-- ==== Proof.Cross.lean ====
/-
  The cross-entropy call's value is the reference's mean weighted cross-entropy.
-/
module

public import proofs.«01_k».proof.Proof.Soft
public import proofs.«01_k».proof.Proof.Sums

@[expose] public section

noncomputable section

namespace Cert.Proof.Best

open Cert.KernelIdeal Cert.KernelIdeal.Gen
open Idealize.ShloMosaic Idealize.ShloMosaic.ValueIdx

/-! ## The body's value in stretches -/

/-- A row's maximum, spread over the row. -/
def kMax (x : FVec Ideal S16384x32 .f32) : FVec Ideal S16384x32 .f32 :=
  broadcastTo S16384x32 (shapeCast S16384x1 (maximumf (broadcast S16384 (Scalar.ofBits .f32 0xFF800000#32))
    (multiReduction .maximumf [1] S16384 x 0xFF800000#32 reduces_S16384x32_S16384 (.inl rfl) rfl)) shapeCasts_S16384_S16384x1)
    broadcasts_S16384x1_S16384x32

/-- A row's sum, as a column. -/
def kSum (x : FVec Ideal S16384x32 .f32) : FVec Ideal S16384x1 .f32 :=
  shapeCast S16384x1 (multiReduction .add [1] S16384 x 0x00000000#32 reduces_S16384x32_S16384 (.inl rfl) rfl) shapeCasts_S16384_S16384x1

/-- The softmax of every row. -/
def kSoft (x : FVec Ideal S16384x32 .f32) : FVec Ideal S16384x32 .f32 :=
  divf (exp (subf x (kMax x))) (broadcastTo S16384x32 (kSum (exp (subf x (kMax x)))) broadcasts_S16384x1_S16384x32)

/-- The logarithm of the softmax from rows already centred. -/
def kLogOf (z : FVec Ideal S16384x32 .f32) : FVec Ideal S16384x32 .f32 :=
  subf z (broadcastTo S16384x32 (log (kSum (exp z))) broadcasts_S16384x1_S16384x32)

/-- Every row's weighted sum of the logarithms `l`. -/
def kRows (l g : FVec Ideal S16384x32 .f32) (w : FVec Ideal S1x32 .f32) : FVec Ideal S16384x1 .f32 :=
  kSum (mulf (mulf (broadcastTo S16384x32 (shapeCast S1x32 w shapeCasts_S1x32_S1x32) broadcasts_S1x32_S16384x32) g) l)

/-- Minus the mean of a column. -/
def kMean (r : FVec Ideal S16384x1 .f32) : Ideal .f32 :=
  Scalar.divf (extractAt ![0, 0, 0] (shapeCast S1x1x1 (multiReduction .add [1, 2] S1
    (shapeCast S1x16384x1 (subf (broadcast S16384x1 (Scalar.ofBits .f32 0x00000000#32)) r) shapeCasts_S16384x1_S1x16384x1)
    0x00000000#32 reduces_S1x16384x1_S1 (.inl rfl) rfl) shapeCasts_S1_S1x1x1) inpos_S1x1x1_p0_0_0)
    (Scalar.ofBits .f32 0x46800000#32)

theorem cceOut_stretches (x g : FVec Ideal S16384x32 .f32) (w : FVec Ideal S1x32 .f32) :
    Hist.cceOut x g w = broadcast S1x1 (kMean (kRows (kLogOf (subf (kSoft x) (kMax (kSoft x)))) g w)) := rfl

/-! ## Each stretch as the reference's -/

theorem mulf_at {s : Shape} (a b : FVec Ideal s .f32) (i : s.Idx) :
    (mulf a b i : EReal) = (a i : EReal) * (b i : EReal) := rfl

theorem bcastTo_col (y : FVec Ideal S16384x1 .f32) (n : Fin 16384) (k : Fin 32) :
    broadcastTo S16384x32 y broadcasts_S16384x1_S16384x32 (ix2 n k) = y (ix2 n (0 : Fin 1)) := by
  refine broadcastTo_apply y _ _ _ fun a => ?_
  match a with
  | ⟨0, _⟩ => rfl
  | ⟨1, _⟩ => rfl

theorem cast_col (y : FVec Ideal S16384 .f32) (n : Fin 16384) (k : Fin 1) :
    shapeCast S16384x1 y shapeCasts_S16384_S16384x1 (ix2 n k) = y (ix1 n) := by
  refine shapeCast_apply y _ _ _ ?_
  rw [Shape.rowMajor_val_two, Shape.rowMajor_val_one]
  show n.val = n.val * 1 + k.val
  have := k.isLt; omega

theorem kMax_eq (x : FVec Ideal S16384x32 .f32) : kMax x = Ref.rowMax x := by
  funext i
  rw [eq_ix2 i]
  refine Eq.trans ?_ (rowMax_eq x (i 0) (i 1)).symm
  unfold kMax
  refine (bcastTo_col _ (i 0) (i 1)).trans ((cast_col _ (i 0) 0).trans ?_)
  refine (congrArg (max (Ideal.ofBits .f32 0xFF800000#32)) (Ideal.multiReduction_maximumf_single x 0xFF800000#32
    reduces_S16384x32_S16384 (.inl rfl) rfl (ix1 (i 0)))).trans ?_
  rw [Ideal.ofBits_def, ofBits_neg_inf]
  congr 2
  funext k
  exact congrArg x (lift_row (i 0) k)

theorem kSum_eq (x : FVec Ideal S16384x32 .f32) : kSum x = Ref.rowSum x := by
  funext i
  rw [eq_ix2 i]
  refine Eq.trans ?_ (rowSum_eq x (i 0) (i 1)).symm
  unfold kSum
  refine (cast_col _ (i 0) (i 1)).trans ?_
  refine (Ideal.multiReduction_add_single x 0x00000000#32 reduces_S16384x32_S16384 (.inl rfl) rfl (ix1 (i 0))).trans ?_
  rw [zero_add]
  exact Finset.sum_congr rfl fun k _ => congrArg x (lift_row (i 0) k)

theorem bcastTo_eq (y : FVec Ideal S16384x1 .f32) : broadcastTo S16384x32 y broadcasts_S16384x1_S16384x32
    = broadcastInDim S16384x32 ![0, 1] Cert.ReferenceIdeal.Gen.bcast_S16384x1_S16384x32_0_1 y := by
  funext i
  rw [eq_ix2 i]
  exact (bcastTo_col y (i 0) (i 1)).trans (bcast_col _ y (i 0) (i 1)).symm

theorem kSoft_eq (x : FVec Ideal S16384x32 .f32) : kSoft x = Ref.soft x := by
  unfold kSoft Ref.soft
  rw [kSum_eq, bcastTo_eq, kMax_eq]
  rfl

theorem kLogOf_eq (z : FVec Ideal S16384x32 .f32) : kLogOf z = Ref.logOf z := by
  unfold kLogOf Ref.logOf
  rw [kSum_eq, bcastTo_eq]
  rfl

theorem kMean_eq (r : FVec Ideal S16384x1 .f32) :
    kMean r = Ideal.div (∑ n : Fin 16384, (0 - r (ix2 n (0 : Fin 1)))) (Ideal.ofBits .f32 0x46800000#32) := by
  have h : ∀ j, multiReduction .add [1, 2] S1
    (shapeCast S1x16384x1 (subf (broadcast S16384x1 (Scalar.ofBits .f32 0x00000000#32)) r) shapeCasts_S16384x1_S1x16384x1)
    0x00000000#32 reduces_S1x16384x1_S1 (.inl rfl) rfl j = ∑ n : Fin 16384, (0 - r (ix2 n (0 : Fin 1))) := fun j => by
    refine (Ideal.multiReduction_add_total _ 0x00000000#32 reduces_S1x16384x1_S1 (by decide) (.inl rfl) rfl j).trans ?_
    refine (sum_along2 (n := 16384) _).trans ?_
    refine Finset.sum_congr rfl fun n _ => ?_
    refine (shapeCast_apply _ _ _ (ix2 n (0 : Fin 1)) ?_).trans ?_
    · rw [Shape.rowMajor_val_two, Shape.rowMajor_val_three]
      show n.val * 1 + 0 = (0 * 16384 + n.val) * 1 + 0
      omega
    · show Ideal.ofBits .f32 0x00000000#32 - r (ix2 n (0 : Fin 1)) = _
      rw [Ideal.ofBits_zero_f32]
  exact congrArg (Ideal.div · (Ideal.ofBits .f32 0x46800000#32)) (h _)

/-- The reference's mean of the weighted sums of the logarithms `l`. -/
theorem cceMean_eq (l g : FVec Ideal S16384x32 .f32) (w : FVec Ideal S32 .f32) :
    Ref.cceMean l g w ix0 = Ideal.div (∑ n : Fin 16384, -(∑ k : Fin 32, w (ix1 k) * row g n k * row l n k))
      (Ideal.ofBits .f32 0x46800000#32) := by
  unfold Ref.cceMean
  rw [hostDivf_at]
  show Ideal.div (Ideal.hostReduceAdd _ _ (Ideal.ofBits .f32 0x00000000#32) ix0) (Ideal.ofBits .f32 0x46800000#32) = _
  refine congrArg (fun z : EReal => Ideal.div z (Ideal.ofBits .f32 0x46800000#32)) ?_
  rw [Ideal.hostReduceAdd_total _ (fun b => b.elim0), Ideal.ofBits_zero_f32, zero_add, sum_along1]
  refine Finset.sum_congr rfl fun n _ => ?_
  show -(Ideal.hostReduceAdd _ _ (Ideal.ofBits .f32 0x00000000#32) (ix1 n)) = _
  rw [Ideal.hostReduceAdd_single _ reduces_rows, Ideal.ofBits_zero_f32, zero_add]
  refine congrArg (fun z : EReal => -z) ?_
  refine Finset.sum_congr rfl fun (k : Fin 32) _ => ?_
  refine (congrArg _ (lift_row n k)).trans ?_
  rw [mulf_at, mulf_at, bcast_row, bcast_flat, row, row]

theorem cceOut_eq (x g : FVec Ideal S16384x32 .f32) (w : FVec Ideal S32 .f32) (i : S1x1.Idx) :
    Hist.cceOut x g (Hist.wrow w) i = Ref.cceMean (Ref.logSoft (Ref.soft x)) g w ix0 := by
  rw [cceOut_stretches, kSoft_eq, kMax_eq, kLogOf_eq, cceMean_eq]
  show kMean _ = _
  rw [kMean_eq]
  refine congrArg (fun z : EReal => Ideal.div z (Ideal.ofBits .f32 0x46800000#32)) ?_
  refine Finset.sum_congr rfl fun n _ => ?_
  unfold kRows
  rw [kSum_eq, rowSum_eq, zero_sub, zero_add]
  refine congrArg (fun z : EReal => -z) ?_
  refine Finset.sum_congr rfl fun k _ => ?_
  have hw : broadcastTo S16384x32 (shapeCast S1x32 (Hist.wrow w) shapeCasts_S1x32_S1x32) broadcasts_S1x32_S16384x32 (ix2 n k)
      = w (ix1 k) := by
    refine (broadcastTo_apply _ _ _ (ix2 (0 : Fin 1) k) fun a => ?_).trans ?_
    · match a with
      | ⟨0, _⟩ => rfl
      | ⟨1, _⟩ => rfl
    · rw [shapeCast_self]
      refine shapeCast_apply w _ _ _ ?_
      rw [Shape.rowMajor_val_two, Shape.rowMajor_val_one]
      show k.val = 0 * 32 + k.val
      omega
  rw [row, mulf_at, mulf_at, hw, row, row, Ref.logSoft]

end Cert.Proof.Best

end
-- ==== Proof.Given.lean ====
/-
  What the precondition says: the predictions are real numbers, and every class is the category of some sample in exactly one
  of the two classifications.
-/
module

public import proofs.«01_k».proof.Proof.Argmax

@[expose] public section

noncomputable section

namespace Cert.Proof.Best

open Idealize.ShloMosaic Idealize.ShloMosaic.ValueIdx

/-- Folding `or` over a list of truth values that leaves 1 finds a 1 in it. -/
theorem foldl_ori_eq_one {ι : Type} (f : ι → BitVec 1) : ∀ (l : List ι) (b : BitVec 1),
    l.foldl (fun r n => IntOp.ori r (f n)) b = 1#1 → b = 1#1 ∨ ∃ n ∈ l, f n = 1#1
  | [], _, h => .inl h
  | a :: l, b, h => by
      rcases foldl_ori_eq_one f l _ h with h | ⟨n, hn, h⟩
      · have : ∀ p q : BitVec 1, IntOp.ori p q = 1#1 → p = 1#1 ∨ q = 1#1 := by decide
        rcases this _ _ h with h | h
        · exact .inl h
        · exact .inr ⟨a, by simp, h⟩
      · exact .inr ⟨n, by simp [hn], h⟩

variable {x g : FVec Ideal Cert.ReferenceIdeal.S16384x32 .f32} {w : FVec Ideal Cert.ReferenceIdeal.S32 .f32}

theorem given_and (h : Cert.Pre_confused.fn (F := Ideal) x g w = fun _ => 1#1) :
    Host.reduce IntOp.andi (cmpf .olt (Host.absf x) (constant Cert.ReferenceIdeal.S16384x32 .f32 0x7F800000#32))
        (constantI Cert.Pre_confused.S_ 1 1#1) Cert.Pre_confused.Facts.reducesTo_S16384x32_S_d0_1 Cert.Pre_confused.Facts.h_S_ ix0 = 1#1
      ∧ ∀ c : Fin 32, ∃ n : Fin 16384, IntOp.cmpi .ne (IntOp.cmpi .eq (Ref.amax x (ix1 n)) (BitVec.ofNat 32 c))
          (IntOp.cmpi .eq (Ref.amax g (ix1 n)) (BitVec.ofNat 32 c)) = 1#1 := by
  have h0 : ∀ p q : BitVec 1, IntOp.andi p q = 1#1 → p = 1#1 ∧ q = 1#1 := by decide
  obtain ⟨h1, h2⟩ := h0 _ _ (congrFun h ix0)
  refine ⟨h1, fun c => ?_⟩
  have h3 := Host.reduce_andi_all (t := Cert.Pre_confused.S_) _ _ _ _ _ h2 (ix1 c)
  beta_reduce at h3
  rw [Host.reduce_eq_foldl] at h3
  rcases foldl_ori_eq_one _ _ _ h3 with h4 | ⟨i, hi, h4⟩
  · exact absurd h4 (by decide)
  · have hd := of_decide_eq_true (List.mem_filter.1 hi).2
    have h5 : i 1 = c := Fin.ext (by
      rw [← Shape.ReducesTo.drop_apply_val_of_eq Cert.Pre_confused.Facts.reducesTo_S16384x32_S32_d0 i 0 1, hd])
    refine ⟨i 0, ?_⟩
    have hi : i = ix2 (i 0) c := by rw [← h5]; exact eq_ix2 i
    generalize i 0 = n at hi
    subst hi
    have e : ∀ z : FVec Ideal Cert.Pre_confused.S16384x32 .f32, broadcastInDim Cert.Pre_confused.S16384x32 ![0, 1]
        Cert.Pre_confused.Facts.bcast_S16384x1_S16384x32_0_1 (broadcastInDim Cert.Pre_confused.S16384x1 ![0]
          Cert.Pre_confused.Facts.bcast_S16384_S16384x1_0 (Cert.Pre_confused.fn_argmax z)) (ix2 n c) = Ref.amax z (ix1 n) := fun z =>
      (bcast_col (m := 16384) (n := 32) _ _ n c).trans (bcast_up (m := 16384) _ _ n 0)
    have e' : broadcastInDim Cert.Pre_confused.S16384x32 ![0, 1] Cert.Pre_confused.Facts.bcast_S1x32_S16384x32_0_1
        (broadcastInDim Cert.Pre_confused.S1x32 ![1] Cert.Pre_confused.Facts.bcast_S32_S1x32_1
          (iotaInDim Cert.Pre_confused.S32 32 0)) (ix2 n c) = BitVec.ofNat 32 c :=
      (bcast_row (m := 16384) (n := 32) _ _ n c).trans (bcast_flat (n := 32) _ _ 0 c)
    rw [← e x, ← e g, ← e']
    exact h4

/-- Every prediction is a real number. -/
theorem given_finite (h : Cert.Pre_confused.fn (F := Ideal) x g w = fun _ => 1#1) (i : Cert.ReferenceIdeal.S16384x32.Idx) :
    x i ≠ ⊤ ∧ x i ≠ ⊥ := by
  have hi := Host.reduce_andi_all (t := Cert.Pre_confused.S_) _ _ _ _ _ (given_and h).1 i
  have hi' : BitVec.ofBool (decide (max (x i) (-(x i)) < Ideal.ofBits .f32 0x7F800000#32)) = 1#1 := hi
  have ht : Ideal.ofBits .f32 0x7F800000#32 = (⊤ : EReal) := by simp [Ideal.ofBits, Ideal.ieee]
  rw [ht] at hi'
  have hlt : max (x i) (-(x i)) < (⊤ : EReal) := by
    by_contra hc
    rw [decide_eq_false hc] at hi'
    exact absurd hi' (by decide)
  refine ⟨fun e => ?_, fun e => ?_⟩ <;> rw [e] at hlt <;> simp at hlt

/-- Every class is the category of some sample in exactly one of the two classifications. -/
theorem given_confused (h : Cert.Pre_confused.fn (F := Ideal) x g w = fun _ => 1#1) (c : Fin 32) :
    ∃ n : Fin 16384, ¬ (best x n = c ↔ best g n = c) := by
  obtain ⟨n, hn⟩ := (given_and h).2 c
  refine ⟨n, fun he => ?_⟩
  rw [amax_eq, amax_eq] at hn
  have key : ∀ k : Fin 32, (BitVec.ofNat 32 k.val = BitVec.ofNat 32 c.val) ↔ k = c := fun k => by
    constructor
    · intro e
      have := congrArg BitVec.toNat e
      simp only [BitVec.toNat_ofNat] at this
      have := k.isLt; have := c.isLt
      exact Fin.ext (by omega)
    · rintro rfl; rfl
  simp only [IntOp.cmpi] at hn
  by_cases hp : best x n = c
  · have hq := he.1 hp
    rw [hp, hq] at hn
    simp at hn
  · have hq : ¬ best g n = c := fun e => hp (he.2 e)
    have e1 : (BitVec.ofNat 32 (best x n).val == BitVec.ofNat 32 c.val) = false := by
      rw [beq_eq_false_iff_ne]; exact fun e => hp ((key _).1 e)
    have e2 : (BitVec.ofNat 32 (best g n).val == BitVec.ofNat 32 c.val) = false := by
      rw [beq_eq_false_iff_ne]; exact fun e => hq ((key _).1 e)
    rw [e1, e2] at hn
    simp at hn

end Cert.Proof.Best

end
-- ==== Proof.Combine.lean ====
/-
  The kernel's one number is the reference's: the last kernel combines the parts' sums as the reference
  combines its confusion matrix.
-/
module

public import proofs.«01_k».proof.Proof.Counts
public import proofs.«01_k».proof.Proof.Confusion
public import proofs.«01_k».proof.Proof.Focal
public import proofs.«01_k».proof.Proof.Cross
public import proofs.«01_k».proof.Proof.Given

@[expose] public section

noncomputable section

namespace Cert.Proof.Best

open Cert.KernelIdeal Cert.KernelIdeal.Gen
open Idealize.ShloMosaic Idealize.ShloMosaic.ValueIdx

/-! ### The last kernel's stretches -/

/-- The parts summed over the tiles. -/
def kParts (p : FVec Ideal S32x96 .f32) : FVec Ideal S1x96 .f32 :=
  shapeCast S1x96 (multiReduction .add [0] S96 (shapeCast S32x96 p shapeCasts_S32x96_S32x96) 0x00000000#32 reduces_S32x96_S96 (.inl rfl) rfl)
    shapeCasts_S96_S1x96

/-- Rows of each true class, of each predicted class, and of each class predicted rightly. -/
def kTrue (p : FVec Ideal S32x96 .f32) : FVec Ideal S1x32 .f32 := extractStridedSlice S1x32 ![0, 0] (kParts p) slices_S1x96_o0_0_S1x32
def kPred (p : FVec Ideal S32x96 .f32) : FVec Ideal S1x32 .f32 := extractStridedSlice S1x32 ![0, 32] (kParts p) slices_S1x96_o0_32_S1x32
def kBoth (p : FVec Ideal S32x96 .f32) : FVec Ideal S1x32 .f32 := extractStridedSlice S1x32 ![0, 64] (kParts p) slices_S1x96_o0_64_S1x32

/-- A number for every class. -/
def kEach (b : BitVec 32) : FVec Ideal S1x32 .f32 := broadcast S1x32 (Scalar.ofBits .f32 b)

/-- The focal terms. -/
def kFocal (r c h : FVec Ideal S1x32 .f32) : FVec Ideal S1x32 .f32 :=
  exp (mulf (kEach 0x3F400000#32) (log (maximumf (subf (kEach 0x3F800000#32) (divf (addf h (kEach 0x322BCC77#32))
    (addf (addf (addf h (mulf (subf c h) (kEach 0x3E99999A#32))) (mulf (subf r h) (kEach 0x3F333333#32))) (kEach 0x322BCC77#32))))
    (kEach 0x0DA24260#32))))

/-- A sum over the classes. -/
def kTotal (v : FVec Ideal S1x32 .f32) : EReal :=
  extractAt ![0, 0, 0] (shapeCast S1x1x1 (multiReduction .add [1, 2] S1 (shapeCast S1x1x32 v shapeCasts_S1x32_S1x1x32) 0x00000000#32
    reduces_S1x1x32_S1 (.inl rfl) rfl) shapeCasts_S1_S1x1x1) inpos_S1x1x1_p0_0_0

theorem last_stretches (p : FVec Ideal S32x96 .f32) (w : FVec Ideal S1x32 .f32) :
    k2_pay2 (F := Ideal) p w = Ideal.div (kTotal (mulf (kFocal (kTrue p) (kPred p) (kBoth p)) (shapeCast S1x32 w shapeCasts_S1x32_S1x32)))
      (kTotal (mulf (kTrue p) (shapeCast S1x32 w shapeCasts_S1x32_S1x32))) := rfl

theorem kTotal_eq (v : FVec Ideal S1x32 .f32) : kTotal v = ∑ c : Fin 32, v (ix2 (0 : Fin 1) c) := by
  have h : ∀ j, multiReduction .add [1, 2] S1 (shapeCast S1x1x32 v shapeCasts_S1x32_S1x1x32) 0x00000000#32
      reduces_S1x1x32_S1 (.inl rfl) rfl j = ∑ c : Fin 32, v (ix2 (0 : Fin 1) c) := fun j => by
    refine (Ideal.multiReduction_add_total _ 0x00000000#32 reduces_S1x1x32_S1 (by decide) (.inl rfl) rfl j).trans ?_
    refine (sum_along3 (n := 32) _).trans ?_
    refine Finset.sum_congr rfl fun c _ => ?_
    refine shapeCast_apply _ _ _ (ix2 (0 : Fin 1) c) ?_
    rw [Shape.rowMajor_val_two, Shape.rowMajor_val_three]
    rfl
  exact h _

theorem lift_parts (m : Fin 96) (w : Fin 32) : reduces_S32x96_S96.lift (ix1 m) w = (ix2 w m : S32x96.Idx) := by
  funext c
  match c with
  | ⟨0, _⟩ => rfl
  | ⟨1, _⟩ => rfl

theorem kParts_at (p : FVec Ideal S32x96 .f32) (m : Fin 96) : kParts p (ix2 (0 : Fin 1) m) = ∑ w : Fin 32, p (ix2 w m) := by
  unfold kParts
  rw [shapeCast_self]
  refine (shapeCast_apply _ _ _ (ix1 m) ?_).trans ?_
  · rw [Shape.rowMajor_val_one, Shape.rowMajor_val_two]
    show m.val = 0 * 96 + m.val
    omega
  · refine (Ideal.multiReduction_add_single p 0x00000000#32 reduces_S32x96_S96 (.inl rfl) rfl (ix1 m)).trans ?_
    exact Finset.sum_congr rfl fun (w : Fin 32) _ => congrArg p (lift_parts m w)

theorem slice_at (v : FVec Ideal S1x96 .f32) (o : ℕ) (h : S1x96.Slices ![0, o] S1x32) (c : Fin 32) (m : Fin 96) (hm : m.val = o + c.val) :
    extractStridedSlice S1x32 ![0, o] v h (ix2 (0 : Fin 1) c) = v (ix2 (0 : Fin 1) m) := by
  refine extractStridedSlice_apply _ _ _ _ _ fun a => ?_
  match a with
  | ⟨0, _⟩ => rfl
  | ⟨1, _⟩ => exact hm

theorem kFocal_at (r c h : FVec Ideal S1x32 .f32) (j : S1x32.Idx) :
    kFocal r c h j = Ideal.exp (Ideal.ofBits .f32 0x3F400000#32 * Ideal.log (max (rest (h j) (c j - h j) (r j - h j))
      (Ideal.ofBits .f32 0x0DA24260#32))) := rfl

variable (x g : FVec Ideal S16384x32 .f32) (w : FVec Ideal S32 .f32)

/-- Rows of true class `c`, of predicted class `c`, and of both. -/
def nTrue (c : Fin 32) : ℕ := cnt fun n => best g n = c
def nBoth (c : Fin 32) : ℕ := cnt fun n => best g n = c ∧ best x n = c

theorem cnt_congr {p q : Fin 16384 → Prop} [DecidablePred p] [DecidablePred q] (h : ∀ n, p n ↔ q n) : cnt p = cnt q := by
  unfold cnt
  exact congrArg Finset.card (Finset.filter_congr fun n _ => h n)

theorem cnt_le {p q : Fin 16384 → Prop} [DecidablePred p] [DecidablePred q] (h : ∀ n, p n → q n) : cnt p ≤ cnt q := by
  unfold cnt
  exact Finset.card_le_card fun n hn => by
    rw [Finset.mem_filter] at hn ⊢
    exact ⟨hn.1, h n hn.2⟩

theorem cnt_lt {p q : Fin 16384 → Prop} [DecidablePred p] [DecidablePred q] (h : ∀ n, p n → q n) (n : Fin 16384) (hq : q n) (hp : ¬ p n) :
    cnt p < cnt q := by
  unfold cnt
  refine Finset.card_lt_card ⟨fun n hn => ?_, fun hs => ?_⟩
  · rw [Finset.mem_filter] at hn ⊢
    exact ⟨hn.1, h n hn.2⟩
  · exact hp (Finset.mem_filter.1 (hs (Finset.mem_filter.2 ⟨Finset.mem_univ _, hq⟩))).2

theorem cnt_all (p : Fin 16384 → Prop) [DecidablePred p] : cnt p ≤ 16384 := by
  unfold cnt
  exact (Finset.card_le_univ _).trans (by rw [Fintype.card_fin])

abbrev allParts : FVec Ideal S32x96 .f32 := Hist.parts (Hist.table x) (Hist.table g)

theorem kTrue_at (c : Fin 32) : kTrue (allParts x g) (ix2 (0 : Fin 1) c) = ((nTrue g c : ℝ) : EReal) := by
  have hc := c.isLt
  unfold kTrue
  rw [slice_at _ 0 _ c ⟨c.val, by omega⟩ (by simp), kParts_at, Hist.parts_sum x g 0 c.val (by omega) hc _ (by simp)]
  refine congrArg (fun k : ℕ => ((k : ℝ) : EReal)) (cnt_congr fun n => ?_)
  unfold Hist.Counted Hist.Hit
  rw [Fin.ext_iff]
  omega

theorem kPred_at (c : Fin 32) : kPred (allParts x g) (ix2 (0 : Fin 1) c) = ((nTrue x c : ℝ) : EReal) := by
  have hc := c.isLt
  unfold kPred
  rw [slice_at _ 32 _ c ⟨32 + c.val, by omega⟩ rfl, kParts_at, Hist.parts_sum x g 1 c.val (by omega) hc _ (by simp)]
  refine congrArg (fun k : ℕ => ((k : ℝ) : EReal)) (cnt_congr fun n => ?_)
  unfold Hist.Counted Hist.Hit
  rw [Fin.ext_iff]
  omega

theorem kBoth_at (c : Fin 32) : kBoth (allParts x g) (ix2 (0 : Fin 1) c) = ((nBoth x g c : ℝ) : EReal) := by
  have hc := c.isLt
  unfold kBoth
  rw [slice_at _ 64 _ c ⟨64 + c.val, by omega⟩ rfl, kParts_at, Hist.parts_sum x g 2 c.val (by omega) hc _ (by simp)]
  refine congrArg (fun k : ℕ => ((k : ℝ) : EReal)) (cnt_congr fun n => ?_)
  unfold Hist.Counted Hist.Hit
  rw [Fin.ext_iff, Fin.ext_iff]
  omega

/-- The weights as a row. -/
theorem wrow_at (c : Fin 32) : Hist.wrow w (ix2 (0 : Fin 1) c) = w (ix1 c) := by
  refine shapeCast_apply _ _ _ (ix1 c) ?_
  rw [Shape.rowMajor_val_one, Shape.rowMajor_val_two]
  show c.val = 0 * 32 + c.val
  omega

/-- The power of the rest at a class. -/
def power (c : Fin 32) : EReal :=
  Ideal.pow (rest ((nBoth x g c : ℝ) : EReal) (((nTrue x c : ℝ) : EReal) - ((nBoth x g c : ℝ) : EReal))
    (((nTrue g c : ℝ) : EReal) - ((nBoth x g c : ℝ) : EReal))) (Ideal.ofBits .f32 0x3F400000#32)

variable {x g w}

theorem kernel_last (h : Cert.Pre_confused.fn (F := Ideal) x g w = fun _ => 1#1) :
    k2_pay2 (F := Ideal) (allParts x g) (Hist.wrow w)
      = Ideal.div (∑ c : Fin 32, power x g c * w (ix1 c)) (∑ c : Fin 32, ((nTrue g c : ℝ) : EReal) * w (ix1 c)) := by
  rw [last_stretches, shapeCast_self, kTotal_eq, kTotal_eq]
  congr 1
  · refine Finset.sum_congr rfl fun c _ => ?_
    rw [mulf_at, wrow_at, kFocal_at, kTrue_at, kPred_at, kBoth_at]
    refine congrArg (fun z : EReal => z * w (ix1 c)) ?_
    refine focal_term _ _ _ (cnt_le fun n hn => hn.1) (cnt_le fun n hn => hn.2) (cnt_all _) (cnt_all _) ?_
    obtain ⟨n, hn⟩ := given_confused h c
    by_cases hg : best g n = c
    · exact .inl (cnt_lt (fun n hn => hn.1) n hg fun hb => hn ⟨fun _ => hg, fun _ => hb.2⟩)
    · by_cases hx : best x n = c
      · exact .inr (cnt_lt (fun n hn => hn.2) n hx fun hb => hg hb.1)
      · exact absurd ⟨fun e => absurd e hx, fun e => absurd e hg⟩ hn
  · refine Finset.sum_congr rfl fun c _ => ?_
    rw [mulf_at, wrow_at, kTrue_at]

/-! ### The reference's side -/

theorem focal_at (t w : FVec Ideal S32 .f32) :
    Ref.focal t w ix0 = ∑ c : Fin 32, Ideal.pow (Ideal.ofBits .f32 0x3F800000#32 - t (ix1 c)) (Ideal.ofBits .f32 0x3F400000#32) * w (ix1 c) := by
  unfold Ref.focal
  show Ideal.hostReduceAdd _ _ (Ideal.ofBits .f32 0x00000000#32) ix0 = _
  rw [Ideal.hostReduceAdd_total _ (fun b => b.elim0), Ideal.ofBits_zero_f32, zero_add, sum_along1]
  rfl

theorem tver_at (tp fp fn : FVec Ideal S32 .f32) (i : S32.Idx) :
    Ideal.ofBits .f32 0x3F800000#32 - Ref.tver tp fp fn i = rest (tp i) (fp i) (fn i) := rfl

theorem reference_last (hx : ∀ i, x i ≠ ⊤ ∧ x i ≠ ⊥) :
    Host.divf (Ref.focal (Ref.tver (Ref.tps (Ref.conf (Ref.amax g) (Ref.amax (Ref.soft x)))) (Ref.fps (Ref.conf (Ref.amax g) (Ref.amax (Ref.soft x))))
        (Ref.fns (Ref.conf (Ref.amax g) (Ref.amax (Ref.soft x))))) w) (Ref.wsum (Ref.amax g) w) ix0
      = Ideal.div (∑ c : Fin 32, power x g c * w (ix1 c)) (∑ c : Fin 32, ((nTrue g c : ℝ) : EReal) * w (ix1 c)) := by
  have hg : ∀ n, Ref.amax g (ix1 n) = BitVec.ofNat 32 (best g n).val := amax_eq g
  have hp : ∀ n, Ref.amax (Ref.soft x) (ix1 n) = BitVec.ofNat 32 (best x n).val := fun n => by rw [amax_eq, best_soft x hx]
  have htp : ∀ c : Fin 32, Ref.tps (Ref.conf (F := Ideal) (Ref.amax g) (Ref.amax (Ref.soft x))) (ix1 c) = ((nBoth x g c : ℝ) : EReal) := fun c => by
    rw [tps_at, conf_at hg hp, sum_ind, nBoth]
  have hfp : ∀ c : Fin 32, Ref.fps (Ref.conf (F := Ideal) (Ref.amax g) (Ref.amax (Ref.soft x))) (ix1 c)
      = ((nTrue x c : ℝ) : EReal) - ((nBoth x g c : ℝ) : EReal) := fun c => by
    unfold Ref.fps
    show _ - _ = _
    rw [htp, sum_down, conf_down hg hp, nTrue]
  have hfn : ∀ c : Fin 32, Ref.fns (Ref.conf (F := Ideal) (Ref.amax g) (Ref.amax (Ref.soft x))) (ix1 c)
      = ((nTrue g c : ℝ) : EReal) - ((nBoth x g c : ℝ) : EReal) := fun c => by
    unfold Ref.fns
    show _ - _ = _
    rw [htp, sum_across, conf_across hg hp, nTrue]
  rw [hostDivf_at, focal_at, wsum_at hg]
  refine congrArg (fun z : EReal => Ideal.div z (∑ c : Fin 32, ((nTrue g c : ℝ) : EReal) * w (ix1 c))) ?_
  refine Finset.sum_congr rfl fun c _ => ?_
  rw [tver_at, htp, hfp, hfn]
  rfl

/-! ### The value -/

/-- On inputs the precondition grants the kernel's number is the reference's. -/
theorem value_eq (h : Cert.Pre_confused.fn (F := Ideal) x g w = fun _ => 1#1) : Hist.outV (F := Ideal) x g w = Ref.out x g w := by
  funext i
  rw [show i = ix0 from funext fun a => a.elim0]
  have hl : Hist.outV (F := Ideal) x g w ix0 = Hist.cceOut x g (Hist.wrow w) (ix2 (0 : Fin 1) (0 : Fin 1)) * Ideal.ofBits .f32 0x3DCCCCCD#32
      + k2_pay2 (F := Ideal) (allParts x g) (Hist.wrow w) * Ideal.ofBits .f32 0x3F800000#32 := by
    unfold Hist.outV
    refine (shapeCast_apply _ _ _ (ix2 (0 : Fin 1) (0 : Fin 1)) rfl).trans ?_
    unfold Hist.combOut
    show k2_pay3 _ * _ + _ = _
    refine congrArg (fun z : EReal => z * Ideal.ofBits .f32 0x3DCCCCCD#32 + _) ?_
    rfl
  rw [hl, cceOut_eq, kernel_last h, ← reference_last (given_finite h)]
  rfl

end Cert.Proof.Best

end
-- ==== Proof.lean ====
/-
  The certificate: the frames of the kernel at both interpretations, the frame of the reference, and the claims that tie
  the two together.
-/
module

public import proofs.«01_k».proof.Defs
public import proofs.«01_k».proof.Proof.Gen.Kernel
public import proofs.«01_k».proof.Proof.Gen.KernelIdeal
public import proofs.«01_k».proof.Proof.Gen.Pre_confused
public import proofs.«01_k».proof.Proof.Gen.ReferenceIdeal
public import proofs.«01_k».proof.Proof.Run
public import proofs.«01_k».proof.Proof.RefRun
public import proofs.«01_k».proof.Proof.Combine
public import Idealize.ShloMosaic.Adequacy
public import Idealize.ShloMosaic.Init

@[expose] public section

noncomputable section

namespace Cert.Proof

open Idealize.ShloMosaic Idealize.SL.Sem Cert.Kernel

/-- Every execution of the kernel, over any float values, leaves its arguments as they were and every counter at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
      ∧ r.2.sem = fun _ => 0 :=
  (θ_run Cert.KernelIdeal.defs _ _).mono (fun _ h => ⟨fun c => (h.1 c).2, h.2⟩) (Hist.run_main m ρ)

/-- The body tables of the two printings agree label by label. -/
theorem defs₀_eq : Cert.Kernel.defs₀ (F := Bits) = Cert.KernelIdeal.defs₀ := by
  funext p l a
  rcases p with _ | _ | _ <;> rcases l with ⟨_ | _ | _ | l, hl⟩ <;> first | rfl | exact absurd hl (by omega)

/-- The body tables of the two printings are one. -/
theorem defs_eq : Cert.Kernel.defs (F := Bits) = Cert.KernelIdeal.defs :=
  congrArg (fun d => Cert.KernelIdeal.sc.defs (Pipeline.defs Cert.KernelIdeal.pcfgs d)) defs₀_eq

/-- The kernel over machine floats. -/
theorem frame_kernel : Cert.quiescent_Kernel := fun m ρ _ => by
  rw [defs_eq]
  exact frame_any (F := Bits) m ρ

/-- The kernel over the extended reals. -/
theorem frame_ideal : Cert.quiescent_KernelIdeal := fun m ρ _ => frame_any (F := Ideal) m ρ

/-- The reference over the extended reals. -/
theorem frame_reference : Cert.quiescent_ReferenceIdeal := fun m ρ _ =>
  (θ_run Cert.ReferenceIdeal.defs _ _).mono (fun _ h => ⟨fun c => (h.1 c).2, h.2⟩) (Ref.run_ref (F := Ideal) m ρ)

/-- The kernel over the extended reals on the inputs the precondition grants. -/
theorem frame_ideal_confused : @Cert.quiescent_KernelIdeal_pre_confused Cert.KernelIdeal.Gen.facts Cert.Pre_confused.Gen.facts :=
  fun m ρ _ => frame_any (F := Ideal) m ρ

/-- The reference over the extended reals on the inputs the precondition grants. -/
theorem frame_reference_confused : @Cert.quiescent_ReferenceIdeal_pre_confused Cert.ReferenceIdeal.Gen.facts Cert.Pre_confused.Gen.facts :=
  fun m ρ _ => (θ_run Cert.ReferenceIdeal.defs _ _).mono (fun _ h => ⟨fun c => (h.1 c).2, h.2⟩) (Ref.run_ref (F := Ideal) m ρ)

/-- On the same finite predictions, truths and weights, with no class predicted perfectly, the kernel's result is the reference's. -/
theorem algebraic : @Cert.algebraic_KernelIdeal_ReferenceIdeal_pre_confused
    Cert.KernelIdeal.Gen.facts Cert.ReferenceIdeal.Gen.facts Cert.Pre_confused.Gen.facts := by
  intro m ρ m' ρ' hpre hin
  refine ⟨fun c => Hist.outV (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h => h.1) (Hist.run_main (F := Ideal) m ρ)
  · refine (θ_run Cert.ReferenceIdeal.defs _ _).mono (fun r h c => ⟨(h.1 c).1.trans ?_, (h.1 c).2⟩) (Ref.run_ref (F := Ideal) m' ρ')
    obtain ⟨e0, e1, e2⟩ := hin c
    rw [e0, e1, e2]
    exact (Best.value_eq (hpre c)).symm

theorem claim : Cert.Claim :=
  ⟨Cert.Kernel.Gen.facts, Cert.KernelIdeal.Gen.facts, Cert.ReferenceIdeal.Gen.facts, Cert.Pre_confused.Gen.facts,
    frame_kernel, frame_ideal, frame_ideal_confused, frame_reference, frame_reference_confused, trivial, algebraic⟩

end Cert.Proof

end
